-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5_1)) (v1 : (c : Dev Cert.KernelIdeal.nD) → Buf (Elt Ideal) ((c.tc : Thread Cert.KernelIdeal.nD Cert.KernelIdeal.τ).loc Cert.KernelIdeal.main_v5_2)) (v2 : (c : Dev Cert.KernelIdeal.nD) → Buf (Elt Ideal) ((c.tc : Thread Cert.KernelIdeal.nD Cert.KernelIdeal.τ).loc Cert.KernelIdeal.main_v5_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_1) = v0 c
          ∧ r.2.mem ((c.tc : Thread Cert.KernelIdeal.nD Cert.KernelIdeal.τ).loc Cert.KernelIdeal.main_v5_2) = v1 c
          ∧ r.2.mem ((c.tc : Thread Cert.KernelIdeal.nD Cert.KernelIdeal.τ).loc Cert.KernelIdeal.main_v5_0) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_v26) = v1 c
          ∧ r.2.mem ((c.tc : Thread Cert.ReferenceIdeal.nD Cert.ReferenceIdeal.τ).loc Cert.ReferenceIdeal.main_v27) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S512x512x3 : Shape := ⟨3, ![512, 512, 3]⟩
abbrev S192x32 : Shape := ⟨2, ![192, 32]⟩
abbrev S32 : Shape := ⟨1, ![32]⟩
abbrev S_ : Shape := ⟨0, ![]⟩

class Facts : Prop where
  bcast_S_S512x512x3 : S_.BroadcastsInDim S512x512x3 (![] : Fin 0 → Fin S512x512x3.rank)
  reducesTo_S512x512x3_S_d0_1_2 : S512x512x3.ReducesTo [0, 1, 2] S_
  h_S_ : 0 < S_.numel
  bcast_S_S192x32 : S_.BroadcastsInDim S192x32 (![] : Fin 0 → Fin S192x32.rank)
  reducesTo_S192x32_S_d0_1 : S192x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg4 : FVec F S32 .f32) (main_v13 : IVec S_ 1) (main_v16 : IVec S192x32 1) : IVec S_ 1 :=
  let main_c_5 : IVec S_ 1 := constantI S_ 1 1#1
  let main_v17 : IVec S_ 1 := (fun x v => Host.reduce IntOp.andi x v reducesTo_S192x32_S_d0_1 h_S_) main_v16 main_c_5
  let main_v18 : IVec S_ 1 := andi main_v13 main_v17
  let main_v19 : FVec F S32 .f32 := Host.absf main_arg4
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  main_v23

def fn {F : FTy → Type} [FloatOps F] (main_arg0 : FVec F S512x512x3 .f32) (main_arg1 : FVec F S192x32 .f32) (main_arg2 : FVec F S32 .f32) (main_arg3 : FVec F S192x32 .f32) (main_arg4 : FVec F S32 .f32) : IVec S_ 1 :=
  let main_v0 : FVec F S512x512x3 .f32 := Host.absf main_arg0
  let main_cst : FVec F S_ .f32 := constant S_ .f32 0x7F800000#32
  let main_v1 : FVec F S512x512x3 .f32 := broadcastInDim S512x512x3 ![] bcast_S_S512x512x3 main_cst
  let main_v2 : IVec S512x512x3 1 := cmpf .olt main_v0 main_v1
  let main_c : IVec S_ 1 := constantI S_ 1 1#1
  let main_v3 : IVec S_ 1 := (fun x v => Host.reduce IntOp.andi x v reducesTo_S512x512x3_S_d0_1_2 h_S_) main_v2 main_c
  let main_v4 : FVec F S192x32 .f32 := Host.absf main_arg1
  let main_cst_0 : FVec F S_ .f32 := constant S_ .f32 0x7F800000#32
  let main_v5 : FVec F S192x32 .f32 := broadcastInDim S192x32 ![] bcast_S_S192x32 main_cst_0
  let main_v6 : IVec S192x32 1 := cmpf .olt main_v4 main_v5
  let main_c_1 : IVec S_ 1 := constantI S_ 1 1#1
  let main_v7 : IVec S_ 1 := (fun x v => Host.reduce IntOp.andi x v reducesTo_S192x32_S_d0_1 h_S_) main_v6 main_c_1
  let main_v8 : IVec S_ 1 := andi main_v3 main_v7
  let main_v9 : FVec F S32 .f32 := Host.absf main_arg2
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S192x32 .f32 := Host.absf main_arg3
  let main_cst_4 : FVec F S_ .f32 := constant S_ .f32 0x7F800000#32
  let main_v15 : FVec F S192x32 .f32 := broadcastInDim S192x32 ![] bcast_S_S192x32 main_cst_4
  let main_v16 : IVec S192x32 1 := cmpf .olt main_v14 main_v15
  fn_part1 (F := F) main_arg4 main_v13 main_v16
-- ==== Kernel.lean ====
abbrev S512x512x3 : Shape := ⟨3, ![512, 512, 3]⟩
abbrev S192x32 : Shape := ⟨2, ![192, 32]⟩
abbrev S32 : Shape := ⟨1, ![32]⟩
abbrev S64x8x64x24 : Shape := ⟨4, ![64, 8, 64, 24]⟩
abbrev S64x64x8x24 : Shape := ⟨4, ![64, 64, 8, 24]⟩
abbrev S4096x192 : Shape := ⟨2, ![4096, 192]⟩
abbrev S1x32 : Shape := ⟨2, ![1, 32]⟩
abbrev S1x4096 : Shape := ⟨2, ![1, 4096]⟩
abbrev S1x64 : Shape := ⟨2, ![1, 64]⟩
abbrev S4096x32 : Shape := ⟨2, ![4096, 32]⟩
abbrev S1024x192 : Shape := ⟨2, ![1024, 192]⟩
abbrev S1024x32 : Shape := ⟨2, ![1024, 32]⟩
abbrev S1024x4096 : Shape := ⟨2, ![1024, 4096]⟩
abbrev S4096 : Shape := ⟨1, ![4096]⟩
abbrev S4096x1 : Shape := ⟨2, ![4096, 1]⟩
abbrev S1x4096x1 : Shape := ⟨3, ![1, 4096, 1]⟩
abbrev S1 : Shape := ⟨1, ![1]⟩
abbrev S1x1x1 : Shape := ⟨3, ![1, 1, 1]⟩
abbrev S1024 : Shape := ⟨1, ![1024]⟩
abbrev S1024x1 : Shape := ⟨2, ![1024, 1]⟩
abbrev S8x512 : Shape := ⟨2, ![8, 512]⟩
abbrev S8 : Shape := ⟨1, ![8]⟩
abbrev S8x1 : Shape := ⟨2, ![8, 1]⟩
abbrev S1x1 : Shape := ⟨2, ![1, 1]⟩

abbrev nBuf : Space → Nat
  | .hbm => 13
  | .vmem => 9
  | .smem => 0
  | _ => 0

abbrev bufTy : (tb : Table) → Fin (tcTables nBuf tb) → BufTy
  | .hbm, ⟨0, _⟩ => ⟨S512x512x3, .f32⟩
  | .hbm, ⟨1, _⟩ => ⟨S192x32, .f32⟩
  | .hbm, ⟨2, _⟩ => ⟨S32, .f32⟩
  | .hbm, ⟨3, _⟩ => ⟨S192x32, .f32⟩
  | .hbm, ⟨4, _⟩ => ⟨S32, .f32⟩
  | .hbm, ⟨5, _⟩ => ⟨S64x8x64x24, .f32⟩
  | .hbm, ⟨6, _⟩ => ⟨S64x64x8x24, .f32⟩
  | .hbm, ⟨7, _⟩ => ⟨S4096x192, .f32⟩
  | .hbm, ⟨8, _⟩ => ⟨S1x32, .f32⟩
  | .hbm, ⟨9, _⟩ => ⟨S1x32, .f32⟩
  | .hbm, ⟨10, _⟩ => ⟨S1x4096, .f32⟩
  | .hbm, ⟨11, _⟩ => ⟨S1x64, .f32⟩
  | .hbm, ⟨12, _⟩ => ⟨S1x64, .i32⟩
  | .local _ .vmem, ⟨0, _⟩ => ⟨S4096x192, .f32⟩
  | .local _ .vmem, ⟨1, _⟩ => ⟨S192x32, .f32⟩
  | .local _ .vmem, ⟨2, _⟩ => ⟨S1x32, .f32⟩
  | .local _ .vmem, ⟨3, _⟩ => ⟨S192x32, .f32⟩
  | .local _ .vmem, ⟨4, _⟩ => ⟨S1x32, .f32⟩
  | .local _ .vmem, ⟨5, _⟩ => ⟨S1x4096, .f32⟩
  | .local _ .vmem, ⟨6, _⟩ => ⟨S1x64, .f32⟩
  | .local _ .vmem, ⟨7, _⟩ => ⟨S1x64, .i32⟩
  | .local _ .vmem, ⟨8, _⟩ => ⟨S4096x32, .f32⟩
  | _, _ => ⟨S512x512x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_scratch0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![4], ![false]⟩

def k0_off1 (i : grid0.Coords) : Fin 2 → Nat :=
  let arg0 : BitVec 32 := BitVec.ofNat 32 (i 0).val
  let c1024_i32 : BitVec 32 := 1024#32
  let v3 : BitVec 32 := Scalar.muli arg0 c1024_i32
  let v4 : Index := Scalar.indexCast v3
  let c0 : Index := 0#32
  ![v4.toNat, 0]
def k0_cond2 (i : grid0.Coords) : BitVec 1 :=
  let arg0 : BitVec 32 := BitVec.ofNat 32 (i 0).val
  let c3_i32 : BitVec 32 := 3#32
  let v42 : BitVec 1 := Scalar.cmpi .eq arg0 c3_i32
  let v43 : BitVec 32 := Scalar.extui v42
  let c0_i32_19 : BitVec 32 := 0#32
  let v44 : BitVec 1 := Scalar.cmpi .ne v43 c0_i32_19
  v44

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S4096x192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S192x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S192x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .i32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceIdeal.lean ====
abbrev S512x512x3 : Shape := ⟨3, ![512, 512, 3]⟩
abbrev S192x32 : Shape := ⟨2, ![192, 32]⟩
abbrev S32 : Shape := ⟨1, ![32]⟩
abbrev S64x8x64x8x3 : Shape := ⟨5, ![64, 8, 64, 8, 3]⟩
abbrev S64x64x8x8x3 : Shape := ⟨5, ![64, 64, 8, 8, 3]⟩
abbrev S4096x192 : Shape := ⟨2, ![4096, 192]⟩
abbrev S4096x32 : Shape := ⟨2, ![4096, 32]⟩
abbrev S1x32 : Shape := ⟨2, ![1, 32]⟩
abbrev S32x4096 : Shape := ⟨2, ![32, 4096]⟩
abbrev S4096x4096 : Shape := ⟨2, ![4096, 4096]⟩
abbrev S_ : Shape := ⟨0, ![]⟩
abbrev S4096 : Shape := ⟨1, ![4096]⟩
abbrev S4096x1 : Shape := ⟨2, ![4096, 1]⟩
abbrev S64 : Shape := ⟨1, ![64]⟩
abbrev S1x64 : Shape := ⟨2, ![1, 64]⟩
abbrev S1x4096 : Shape := ⟨2, ![1, 4096]⟩

abbrev nBuf : Space → Nat
  | .hbm => 39
  | .vmem => 0
  | .smem => 0
  | _ => 0

abbrev bufTy : (tb : Table) → Fin (tcTables nBuf tb) → BufTy
  | .hbm, ⟨0, _⟩ => ⟨S512x512x3, .f32⟩
  | .hbm, ⟨1, _⟩ => ⟨S192x32, .f32⟩
  | .hbm, ⟨2, _⟩ => ⟨S32, .f32⟩
  | .hbm, ⟨3, _⟩ => ⟨S192x32, .f32⟩
  | .hbm, ⟨4, _⟩ => ⟨S32, .f32⟩
  | .hbm, ⟨5, _⟩ => ⟨S64x8x64x8x3, .f32⟩
  | .hbm, ⟨6, _⟩ => ⟨S64x64x8x8x3, .f32⟩
  | .hbm, ⟨7, _⟩ => ⟨S4096x192, .f32⟩
  | .hbm, ⟨8, _⟩ => ⟨S4096x32, .f32⟩
  | .hbm, ⟨9, _⟩ => ⟨S1x32, .f32⟩
  | .hbm, ⟨10, _⟩ => ⟨S4096x32, .f32⟩
  | .hbm, ⟨11, _⟩ => ⟨S4096x32, .f32⟩
  | .hbm, ⟨12, _⟩ => ⟨S4096x32, .f32⟩
  | .hbm, ⟨13, _⟩ => ⟨S1x32, .f32⟩
  | .hbm, ⟨14, _⟩ => ⟨S4096x32, .f32⟩
  | .hbm, ⟨15, _⟩ => ⟨S4096x32, .f32⟩
  | .hbm, ⟨16, _⟩ => ⟨S32x4096, .f32⟩
  | .hbm, ⟨17, _⟩ => ⟨S4096x4096, .f32⟩
  | .hbm, ⟨18, _⟩ => ⟨S_, .f32⟩
  | .hbm, ⟨19, _⟩ => ⟨S4096, .f32⟩
  | .hbm, ⟨20, _⟩ => ⟨S_, .f32⟩
  | .hbm, ⟨21, _⟩ => ⟨S4096, .f32⟩
  | .hbm, ⟨22, _⟩ => ⟨S4096, .f32⟩
  | .hbm, ⟨23, _⟩ => ⟨S4096x1, .f32⟩
  | .hbm, ⟨24, _⟩ => ⟨S4096x4096, .f32⟩
  | .hbm, ⟨25, _⟩ => ⟨S4096x4096, .f32⟩
  | .hbm, ⟨26, _⟩ => ⟨S4096x4096, .f32⟩
  | .hbm, ⟨27, _⟩ => ⟨S_, .f32⟩
  | .hbm, ⟨28, _⟩ => ⟨S4096, .f32⟩
  | .hbm, ⟨29, _⟩ => ⟨S4096x1, .f32⟩
  | .hbm, ⟨30, _⟩ => ⟨S4096x4096, .f32⟩
  | .hbm, ⟨31, _⟩ => ⟨S4096x4096, .f32⟩
  | .hbm, ⟨32, _⟩ => ⟨S_, .f32⟩
  | .hbm, ⟨33, _⟩ => ⟨S4096, .f32⟩
  | .hbm, ⟨34, _⟩ => ⟨S64, .f32⟩
  | .hbm, ⟨35, _⟩ => ⟨S64, .i32⟩
  | .hbm, ⟨36, _⟩ => ⟨S1x64, .f32⟩
  | .hbm, ⟨37, _⟩ => ⟨S1x64, .i32⟩
  | .hbm, ⟨38, _⟩ => ⟨S1x4096, .f32⟩
  | _, _ => ⟨S512x512x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_1 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_2 : Ref sig .tc := ⟨.hbm, 32, rfl⟩
abbrev main_v24 : Ref sig .tc := ⟨.hbm, 33, rfl⟩
abbrev main_values : Ref sig .tc := ⟨.hbm, 34, rfl⟩
abbrev main_indices : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩

abbrev nD : Nat := 1
abbrev τ : Topo := Topo.v7x

variable {F : FTy → Type} [FloatOps F]
-- ==== Proof.Rounds.lean ====
/- The sixty-four top-k rounds of the kernel, named: what one round computes from the block it is given,
   and what the two result rows hold after a number of rounds. -/
module

public import proofs.«01_k».proof.Proof.Gen.KernelIdeal.Skeleton

@[expose] public section

noncomputable section

open Idealize.ShloMosaic Idealize.ShloMosaic.TcCoe Idealize.SL.Sem

namespace Cert.KernelIdeal.Rounds

open Cert.KernelIdeal Cert.KernelIdeal.Gen

variable {F : FTy → Type} [FloatOps F]

/-- The flat position of each element of the block: 512 times its row plus its column. -/
def flat : IVec S8x512 32 := k0_pay6

/-- The lane numbers of a result row. -/
def lanes : IVec S1x64 32 := iota .tc S1x64 32 [1] iota_S1x64_d1_w32

/-- The greatest element of each row of the block. -/
def rowMax (x : FVec F S8x512 .f32) : FVec F S8x1 .f32 :=
  shapeCast S8x1 (multiReduction .maximumf [1] S8 x 0xFF800000#32 reduces_S8x512_S8 (.inl rfl) rfl) shapeCasts_S8_S8x1

/-- Where an element of the block is the greatest of its row. -/
def isRowMax (x : FVec F S8x512 .f32) : IVec S8x512 1 :=
  cmpf .oeq x (broadcastTo S8x512 (rowMax x) broadcasts_S8x1_S8x512)

/-- The least flat position, row by row, of an element that is the greatest of its row. -/
def rowArg (x : FVec F S8x512 .f32) : IVec S8x1 32 :=
  shapeCast S8x1 (multiReductionI .minsi [1] S8 (select (isRowMax x) flat (broadcast S8x512 4096#32)) 2147483647#32
    reduces_S8x512_S8 rfl) shapeCasts_S8_S8x1

/-- The greatest element of the block. -/
def top (x : FVec F S8x512 .f32) : FVec F S1x1 .f32 :=
  shapeCast S1x1 (multiReduction .maximumf [0] S1 (rowMax x) 0xFF800000#32 reduces_S8x1_S1 (.inl rfl) rfl) shapeCasts_S1_S1x1

/-- The least flat position of an element that is the greatest of the block. -/
def topAt (x : FVec F S8x512 .f32) : IVec S1x1 32 :=
  shapeCast S1x1 (multiReductionI .minsi [0] S1
    (select (cmpf .oeq (rowMax x) (broadcastTo S8x1 (top x) broadcasts_S1x1_S8x1)) (rowArg x) (broadcast S8x1 4096#32))
    2147483647#32 reduces_S8x1_S1 rfl) shapeCasts_S1_S1x1

/-- The block with the element just picked replaced by −∞. -/
def drop (x : FVec F S8x512 .f32) : FVec F S8x512 .f32 :=
  select (cmpi .eq flat (broadcastTo S8x512 (topAt x) broadcasts_S1x1_S8x512))
    (broadcast S8x512 (Scalar.ofBits .f32 0xFF800000#32)) x

/-- A one-element array written at lane `k` of a row. -/
def put {α : Type} (k : BitVec 32) (v : S1x1.Idx → α) (row : S1x64.Idx → α) : S1x64.Idx → α :=
  select (cmpi .eq lanes (broadcast S1x64 k)) (broadcastTo S1x64 v broadcasts_S1x1_S1x64) row

/-- The block after `n` rounds: the row of column sums cut into eight rows of 512, the `n` picked elements dropped. -/
def after (v : Vec F S1x4096 .f32) : Nat → FVec F S8x512 .f32
  | 0 => shapeCast S8x512 v shapeCasts_S1x4096_S8x512
  | n + 1 => drop (after v n)

/-- The row of greatest values after `n` rounds. -/
def valueRow (v : Vec F S1x4096 .f32) : Nat → FVec F S1x64 .f32
  | 0 => broadcast S1x64 (Scalar.ofBits .f32 0x00000000#32)
  | n + 1 => put (BitVec.ofNat 32 n) (top (after v n)) (valueRow v n)

/-- The row of their positions after `n` rounds. -/
def indexRow (v : Vec F S1x4096 .f32) : Nat → IVec S1x64 32
  | 0 => broadcast S1x64 0#32
  | n + 1 => put (BitVec.ofNat 32 n) (topAt (after v n)) (indexRow v n)

section fold
variable (x : FVec F S8x512 .f32) (v : Vec F S1x4096 .f32)

theorem flat_fold : k0_pay6 = flat := rfl
theorem lanes_fold (h) : iota .tc S1x64 32 [1] h = lanes := rfl
theorem rowMax_fold (hr hφ) (hacc : (0xFF800000#32 : BitVec 32) = 0xFF800000#32) (hc) :
    shapeCast S8x1 (multiReduction .maximumf [1] S8 x 0xFF800000#32 hr hφ hacc) hc = rowMax x := rfl
theorem isRowMax_fold (hb) : cmpf .oeq x (broadcastTo S8x512 (rowMax x) hb) = isRowMax x := rfl
theorem rowArg_fold (hr) (hacc : (2147483647#32 : BitVec 32) = 2147483647#32) (hc) :
    shapeCast S8x1 (multiReductionI .minsi [1] S8 (select (isRowMax x) flat (broadcast S8x512 4096#32)) 2147483647#32 hr hacc) hc
      = rowArg x := rfl
theorem top_fold (hr hφ) (hacc : (0xFF800000#32 : BitVec 32) = 0xFF800000#32) (hc) :
    shapeCast S1x1 (multiReduction .maximumf [0] S1 (rowMax x) 0xFF800000#32 hr hφ hacc) hc = top x := rfl
theorem topAt_fold (hb hr) (hacc : (2147483647#32 : BitVec 32) = 2147483647#32) (hc) :
    shapeCast S1x1 (multiReductionI .minsi [0] S1
      (select (cmpf .oeq (rowMax x) (broadcastTo S8x1 (top x) hb)) (rowArg x) (broadcast S8x1 4096#32)) 2147483647#32 hr hacc) hc
      = topAt x := rfl
theorem drop_fold (hb) :
    select (cmpi .eq flat (broadcastTo S8x512 (topAt x) hb)) (broadcast S8x512 (Scalar.ofBits .f32 0xFF800000#32)) x = drop x := rfl
theorem put_fold {α : Type} (k : BitVec 32) (u : S1x1.Idx → α) (row : S1x64.Idx → α) (hb) :
    select (cmpi .eq lanes (broadcast S1x64 k)) (broadcastTo S1x64 u hb) row = put k u row := rfl
theorem after_zero (h) : shapeCast S8x512 v h = after v 0 := rfl
theorem after_succ (n : Nat) : drop (after v n) = after v (n + 1) := rfl
theorem valueRow_one : put 0#32 (top (after v 0)) (broadcast S1x64 (Scalar.ofBits .f32 0x00000000#32)) = valueRow v 1 := rfl
theorem valueRow_succ (n : Nat) : put (BitVec.ofNat 32 n) (top (after v n)) (valueRow v n) = valueRow v (n + 1) := rfl
theorem indexRow_one : put 0#32 (topAt (after v 0)) (broadcast S1x64 0#32) = indexRow v 1 := rfl
theorem indexRow_succ (n : Nat) : put (BitVec.ofNat 32 n) (topAt (after v n)) (indexRow v n) = indexRow v (n + 1) := rfl

end fold

end Cert.KernelIdeal.Rounds
-- ==== Proof.Cases.lean ====
/- What each case of the kernel's body leaves in its three outputs and in the key scratch, as values of what it
   finds there: the first point (case A), the points between (case B), the last point (case C). -/
module

public import proofs.«01_k».proof.Proof.Gen.KernelIdeal.Value
public import proofs.«01_k».proof.Proof.Rounds
public import Idealize.ShloMosaic.Lib.Tactic
public import Idealize.ShloMosaic.Lib.Pipeline.Value

@[expose] public section

set_option maxRecDepth 16384

noncomputable section

open Idealize.ShloMosaic Idealize.ShloMosaic.TcCoe Idealize.SL.Sem

namespace Cert.KernelIdeal.Cases

open Cert.KernelIdeal Cert.KernelIdeal.Gen Cert.KernelIdeal.Rounds

variable {F : FTy → Type} [FloatOps F]

theorem hz : (![0, 0] : Fin 2 → Nat) = fun _ => 0 := funext fun a => by fin_cases a <;> rfl

variable (c : Dev nD) (i : grid0.Coords)
  (a1 : Memref sig .tc .vmem S4096x192 .f32) (h1 : a1.IsWhole) (a2 : Memref sig .tc .vmem S192x32 .f32) (h2 : a2.IsWhole)
  (a3 : Memref sig .tc .vmem S1x32 .f32) (h3 : a3.IsWhole) (a4 : Memref sig .tc .vmem S192x32 .f32) (h4 : a4.IsWhole)
  (a5 : Memref sig .tc .vmem S1x32 .f32) (h5 : a5.IsWhole) (a6 : Memref sig .tc .vmem S1x4096 .f32) (h6 : a6.IsWhole)
  (a7 : Memref sig .tc .vmem S1x64 .f32) (h7 : a7.IsWhole) (a8 : Memref sig .tc .vmem S1x64 .i32) (h8 : a8.IsWhole)
  (a9 : Memref sig .tc .vmem S4096x32 .f32) (h9 : a9.IsWhole)
  (x0 : Vec F S4096x192 .f32) (x1 : Vec F S192x32 .f32) (x2 : Vec F S1x32 .f32) (x3 : Vec F S192x32 .f32) (x4 : Vec F S1x32 .f32)
  (xo : Vec F S1x4096 .f32) (xs : Vec F S4096x32 .f32)

/-- The rows of the patch matrix that the point's block of queries reads. -/
def rows (i : grid0.Coords) (x0 : Vec F S4096x192 .f32) : Vec F S1024x192 .f32 :=
  View.ld x0 (Rect.unit (s := S4096x192) (k0_off1 i) S1024x192.size (k0_off1_inb i))

/-- The column sums after a point that finds `xo` there and keys `ks`. -/
def sums (i : grid0.Coords) (x0 : Vec F S4096x192 .f32) (x1 : Vec F S192x32 .f32) (x2 : Vec F S1x32 .f32) (ks : Vec F S4096x32 .f32)
    (xo : Vec F S1x4096 .f32) : Vec F S1x4096 .f32 :=
  k0_pay1 (k0_pay395 xo) (k0_pay396 (rows i x0) x1 x2 ks ks)

/-- The first point leaves the projected keys in the scratch. -/
theorem sout_A (hc0 : cond0_0 i) (hc1 : ¬cond0_1 i) :
    sout0_A_0 c i a1 h1 a2 h2 a3 h3 a4 h4 a5 h5 a6 h6 a7 h7 a8 h8 a9 h9 hc0 hc1 x0 x1 x2 x3 x4 = k0_pay393 x0 x3 x4 := by
  unfold sout0_A_0
  rw [View.read_writes_eq_canon _ _ _ (scover0_A_0 c i a1 h1 a2 h2 a3 h3 a4 h4 a5 h5 a6 h6 a7 h7 a8 h8 a9 h9 hc0 hc1 x0 x1 x2 x3 x4)]
  unfold kernelRun0_A
  dsimp only
  sl_unfold_words
  rw [View.canon_unit_zero (S := S4096x32) hz]
  simp only [View.readAt_eq_ld, h1.read_unread, h2.read_unread, h3.read_unread, h4.read_unread, h5.read_unread, h6.read_unread, h9.read_unread,
    View.ld_unit_zero (S := S4096x192) hz, View.ld_unit_zero (S := S192x32) hz, View.ld_unit_zero (S := S1x32) hz,
    View.ld_unit_zero (S := S4096x32) hz, View.ld_unit_zero (S := S1x4096) hz]

/-- The first point starts the column sums at zero and adds its block's, over the keys it just projected. -/
theorem out_A5 (hc0 : cond0_0 i) (hc1 : ¬cond0_1 i) :
    out0_A_5 c i a1 h1 a2 h2 a3 h3 a4 h4 a5 h5 a6 h6 a7 h7 a8 h8 a9 h9 hc0 hc1 x0 x1 x2 x3 x4
      = sums i x0 x1 x2 (k0_pay393 x0 x3 x4) k0_pay394 := by
  unfold out0_A_5
  rw [View.read_writes_eq_canon _ _ _ (cover0_A_5 c i a1 h1 a2 h2 a3 h3 a4 h4 a5 h5 a6 h6 a7 h7 a8 h8 a9 h9 hc0 hc1 x0 x1 x2 x3 x4)]
  unfold kernelRun0_A
  dsimp only
  sl_unfold_words
  rw [View.canon_cons_unit_zero (S := S1x4096) hz]
  simp only [View.readCov_unit_zero (S := S1x4096) _ hz, View.readCov_unit_zero (S := S4096x32) _ hz]
  simp only [View.readAt_eq_ld, h1.read_unread, h2.read_unread, h3.read_unread, h4.read_unread, h5.read_unread, h6.read_unread, h9.read_unread,
    View.ld_unit_zero (S := S4096x192) hz, View.ld_unit_zero (S := S192x32) hz, View.ld_unit_zero (S := S1x32) hz,
    View.ld_unit_zero (S := S4096x32) hz, View.ld_unit_zero (S := S1x4096) hz]
  rfl

/-- A point between adds its block's column sums. -/
theorem out_B5 (hc0 : ¬cond0_0 i) (hc1 : ¬cond0_1 i) :
    out0_B_5 c i a1 h1 a2 h2 a3 h3 a4 h4 a5 h5 a6 h6 a7 h7 a8 h8 a9 h9 hc0 hc1 x0 x1 x2 x3 x4 xo xs
      = sums i x0 x1 x2 xs xo := by
  unfold out0_B_5
  rw [View.read_writes_eq_canon _ _ _ (cover0_B_5 c i a1 h1 a2 h2 a3 h3 a4 h4 a5 h5 a6 h6 a7 h7 a8 h8 a9 h9 hc0 hc1 x0 x1 x2 x3 x4 xo xs)]
  unfold kernelRun0_B
  dsimp only
  sl_unfold_words
  rw [View.canon_unit_zero hz]
  simp only [View.readAt_eq_ld, h1.read_unread, h2.read_unread, h3.read_unread, h4.read_unread, h5.read_unread, h6.read_unread, h9.read_unread,
    View.ld_unit_zero (S := S4096x192) hz, View.ld_unit_zero (S := S192x32) hz, View.ld_unit_zero (S := S1x32) hz,
    View.ld_unit_zero (S := S4096x32) hz, View.ld_unit_zero (S := S1x4096) hz]
  rfl

/-- The last point adds its block's column sums too. -/
theorem out_C5 (hc0 : ¬cond0_0 i) (hc1 : cond0_1 i) :
    out0_C_5 c i a1 h1 a2 h2 a3 h3 a4 h4 a5 h5 a6 h6 a7 h7 a8 h8 a9 h9 hc0 hc1 x0 x1 x2 x3 x4 xo xs
      = sums i x0 x1 x2 xs xo := by
  unfold out0_C_5
  rw [View.read_writes_eq_canon _ _ _ (cover0_C_5 c i a1 h1 a2 h2 a3 h3 a4 h4 a5 h5 a6 h6 a7 h7 a8 h8 a9 h9 hc0 hc1 x0 x1 x2 x3 x4 xo xs)]
  unfold kernelRun0_C
  dsimp only
  sl_unfold_words
  rw [View.canon_unit_zero hz]
  simp only [View.readAt_eq_ld, h1.read_unread, h2.read_unread, h3.read_unread, h4.read_unread, h5.read_unread, h6.read_unread, h9.read_unread,
    View.ld_unit_zero (S := S4096x192) hz, View.ld_unit_zero (S := S192x32) hz, View.ld_unit_zero (S := S1x32) hz,
    View.ld_unit_zero (S := S4096x32) hz, View.ld_unit_zero (S := S1x4096) hz]
  rfl

set_option maxHeartbeats 4000000 in
/-- The last point leaves in the other two outputs the value row and the index row of the sixty-four rounds over
    the column sums it just stored. -/
theorem out_C67 (hc0 : ¬cond0_0 i) (hc1 : cond0_1 i) :
    out0_C_6 c i a1 h1 a2 h2 a3 h3 a4 h4 a5 h5 a6 h6 a7 h7 a8 h8 a9 h9 hc0 hc1 x0 x1 x2 x3 x4 xo xs
      = valueRow (sums i x0 x1 x2 xs xo) 64 ∧
    out0_C_7 c i a1 h1 a2 h2 a3 h3 a4 h4 a5 h5 a6 h6 a7 h7 a8 h8 a9 h9 hc0 hc1 x0 x1 x2 x3 x4 xo xs
      = indexRow (sums i x0 x1 x2 xs xo) 64 := by
  unfold out0_C_6 out0_C_7
  rw [View.read_writes_eq_canon _ _ _ (cover0_C_6 c i a1 h1 a2 h2 a3 h3 a4 h4 a5 h5 a6 h6 a7 h7 a8 h8 a9 h9 hc0 hc1 x0 x1 x2 x3 x4 xo xs),
    View.read_writes_eq_canon _ _ _ (cover0_C_7 c i a1 h1 a2 h2 a3 h3 a4 h4 a5 h5 a6 h6 a7 h7 a8 h8 a9 h9 hc0 hc1 x0 x1 x2 x3 x4 xo xs)]
  unfold kernelRun0_C
  dsimp only
  rw [View.canon_unit_zero hz, View.canon_unit_zero hz]
  sl_unfold_words
  simp only [View.readCov_unit_zero (S := S1x4096) _ hz]
  simp only [View.readAt_eq_ld, h1.read_unread, h2.read_unread, h3.read_unread, h4.read_unread, h5.read_unread, h6.read_unread, h9.read_unread,
    View.ld_unit_zero (S := S4096x192) hz, View.ld_unit_zero (S := S192x32) hz, View.ld_unit_zero (S := S1x32) hz,
    View.ld_unit_zero (S := S4096x32) hz, View.ld_unit_zero (S := S1x4096) hz]
  simp only [shapeCast_self, flat_fold, lanes_fold, rowMax_fold, isRowMax_fold, rowArg_fold, top_fold, topAt_fold, drop_fold, put_fold,
    after_zero, after_succ, valueRow_one, valueRow_succ, indexRow_one, indexRow_succ, Nat.reduceAdd,
    k0_pay2, k0_pay3, k0_pay4, k0_pay5, k0_pay6, k0_pay7, k0_pay8, k0_pay9, k0_pay10, k0_pay11, k0_pay12, k0_pay13, k0_pay14, k0_pay15,
    k0_pay16, k0_pay17, k0_pay18, k0_pay19, k0_pay20, k0_pay21, k0_pay22, k0_pay23, k0_pay24, k0_pay25, k0_pay26, k0_pay27, k0_pay28,
    k0_pay29, k0_pay30, k0_pay31, k0_pay32, k0_pay33, k0_pay34, k0_pay35, k0_pay36, k0_pay37, k0_pay38, k0_pay39, k0_pay40, k0_pay41,
    k0_pay42, k0_pay43, k0_pay44, k0_pay45, k0_pay46, k0_pay47, k0_pay48, k0_pay49, k0_pay50, k0_pay51, k0_pay52, k0_pay53, k0_pay54,
    k0_pay55, k0_pay56, k0_pay57, k0_pay58, k0_pay59, k0_pay60, k0_pay61, k0_pay62, k0_pay63, k0_pay64, k0_pay65, k0_pay66, k0_pay67,
    k0_pay68, k0_pay69, k0_pay70, k0_pay71, k0_pay72, k0_pay73, k0_pay74, k0_pay75, k0_pay76, k0_pay77, k0_pay78, k0_pay79, k0_pay80,
    k0_pay81, k0_pay82, k0_pay83, k0_pay84, k0_pay85, k0_pay86, k0_pay87, k0_pay88, k0_pay89, k0_pay90, k0_pay91, k0_pay92, k0_pay93,
    k0_pay94, k0_pay95, k0_pay96, k0_pay97, k0_pay98, k0_pay99, k0_pay100, k0_pay101, k0_pay102, k0_pay103, k0_pay104, k0_pay105,
    k0_pay106, k0_pay107, k0_pay108, k0_pay109, k0_pay110, k0_pay111, k0_pay112, k0_pay113, k0_pay114, k0_pay115, k0_pay116, k0_pay117,
    k0_pay118, k0_pay119, k0_pay120, k0_pay121, k0_pay122, k0_pay123, k0_pay124, k0_pay125, k0_pay126, k0_pay127, k0_pay128, k0_pay129,
    k0_pay130, k0_pay131, k0_pay132, k0_pay133, k0_pay134, k0_pay135, k0_pay136, k0_pay137, k0_pay138, k0_pay139, k0_pay140, k0_pay141,
    k0_pay142, k0_pay143, k0_pay144, k0_pay145, k0_pay146, k0_pay147, k0_pay148, k0_pay149, k0_pay150, k0_pay151, k0_pay152, k0_pay153,
    k0_pay154, k0_pay155, k0_pay156, k0_pay157, k0_pay158, k0_pay159, k0_pay160, k0_pay161, k0_pay162, k0_pay163, k0_pay164, k0_pay165,
    k0_pay166, k0_pay167, k0_pay168, k0_pay169, k0_pay170, k0_pay171, k0_pay172, k0_pay173, k0_pay174, k0_pay175, k0_pay176, k0_pay177,
    k0_pay178, k0_pay179, k0_pay180, k0_pay181, k0_pay182, k0_pay183, k0_pay184, k0_pay185, k0_pay186, k0_pay187, k0_pay188, k0_pay189,
    k0_pay190, k0_pay191, k0_pay192, k0_pay193, k0_pay194, k0_pay195, k0_pay196, k0_pay197, k0_pay198, k0_pay199, k0_pay200, k0_pay201,
    k0_pay202, k0_pay203, k0_pay204, k0_pay205, k0_pay206, k0_pay207, k0_pay208, k0_pay209, k0_pay210, k0_pay211, k0_pay212, k0_pay213,
    k0_pay214, k0_pay215, k0_pay216, k0_pay217, k0_pay218, k0_pay219, k0_pay220, k0_pay221, k0_pay222, k0_pay223, k0_pay224, k0_pay225,
    k0_pay226, k0_pay227, k0_pay228, k0_pay229, k0_pay230, k0_pay231, k0_pay232, k0_pay233, k0_pay234, k0_pay235, k0_pay236, k0_pay237,
    k0_pay238, k0_pay239, k0_pay240, k0_pay241, k0_pay242, k0_pay243, k0_pay244, k0_pay245, k0_pay246, k0_pay247, k0_pay248, k0_pay249,
    k0_pay250, k0_pay251, k0_pay252, k0_pay253, k0_pay254, k0_pay255, k0_pay256, k0_pay257, k0_pay258, k0_pay259, k0_pay260, k0_pay261,
    k0_pay262, k0_pay263, k0_pay264, k0_pay265, k0_pay266, k0_pay267, k0_pay268, k0_pay269, k0_pay270, k0_pay271, k0_pay272, k0_pay273,
    k0_pay274, k0_pay275, k0_pay276, k0_pay277, k0_pay278, k0_pay279, k0_pay280, k0_pay281, k0_pay282, k0_pay283, k0_pay284, k0_pay285,
    k0_pay286, k0_pay287, k0_pay288, k0_pay289, k0_pay290, k0_pay291, k0_pay292, k0_pay293, k0_pay294, k0_pay295, k0_pay296, k0_pay297,
    k0_pay298, k0_pay299, k0_pay300, k0_pay301, k0_pay302, k0_pay303, k0_pay304, k0_pay305, k0_pay306, k0_pay307, k0_pay308, k0_pay309,
    k0_pay310, k0_pay311, k0_pay312, k0_pay313, k0_pay314, k0_pay315, k0_pay316, k0_pay317, k0_pay318, k0_pay319, k0_pay320, k0_pay321,
    k0_pay322, k0_pay323, k0_pay324, k0_pay325, k0_pay326, k0_pay327, k0_pay328, k0_pay329, k0_pay330, k0_pay331, k0_pay332, k0_pay333,
    k0_pay334, k0_pay335, k0_pay336, k0_pay337, k0_pay338, k0_pay339, k0_pay340, k0_pay341, k0_pay342, k0_pay343, k0_pay344, k0_pay345,
    k0_pay346, k0_pay347, k0_pay348, k0_pay349, k0_pay350, k0_pay351, k0_pay352, k0_pay353, k0_pay354, k0_pay355, k0_pay356, k0_pay357,
    k0_pay358, k0_pay359, k0_pay360, k0_pay361, k0_pay362, k0_pay363, k0_pay364, k0_pay365, k0_pay366, k0_pay367, k0_pay368, k0_pay369,
    k0_pay370, k0_pay371, k0_pay372, k0_pay373, k0_pay374, k0_pay375, k0_pay376, k0_pay377, k0_pay378, k0_pay379, k0_pay380, k0_pay381,
    k0_pay382, k0_pay383, k0_pay384, k0_pay385, k0_pay386, k0_pay387, k0_pay388, k0_pay389, k0_pay390, k0_pay391, k0_pay392]
  exact ⟨rfl, rfl⟩

end Cert.KernelIdeal.Cases
-- ==== Proof.Array.lean ====
/- What the kernel's three result arrays hold after the run, over the arrays its windows read: the column sums built up
   point by point, and the two rows of the top-k rounds on the finished sums. -/
module

public import proofs.«01_k».proof.Proof.Cases
public import proofs.«01_k».proof.Proof.Gen.KernelIdeal.Value

@[expose] public section

set_option maxRecDepth 16384

noncomputable section

open Idealize.ShloMosaic Idealize.ShloMosaic.TcCoe Idealize.SL.Sem

namespace Cert.KernelIdeal.Array

open Cert.KernelIdeal Cert.KernelIdeal.Gen Cert.KernelIdeal.Cases Cert.KernelIdeal.Rounds

variable {F : FTy → Type} [FloatOps F]
variable (m : (ℓ : Loc nD τ sig) → Buf (Elt F) ℓ) (c : Dev nD)

/-- The patch matrix: the image cut into 8 × 8 patches, one to a row. -/
def patches : Vec F S4096x192 .f32 :=
  shapeCast S4096x192 (transpose S64x64x8x24 [0, 2, 1, 3]
    (shapeCast S64x8x64x24 (m ((c : Thread nD τ).loc main_arg0)) shapeCasts_S512x512x3_S64x8x64x24)
    transposes_S64x8x64x24_S64x64x8x24_0_2_1_3) shapeCasts_S64x64x8x24_S4096x192
/-- The query weights. -/
def wq : Vec F S192x32 .f32 := m ((c : Thread nD τ).loc main_arg1)
/-- The query bias as a row. -/
def bq : Vec F S1x32 .f32 := shapeCast S1x32 (m ((c : Thread nD τ).loc main_arg2)) shapeCasts_S32_S1x32
/-- The key weights. -/
def wk : Vec F S192x32 .f32 := m ((c : Thread nD τ).loc main_arg3)
/-- The key bias as a row. -/
def bk : Vec F S1x32 .f32 := shapeCast S1x32 (m ((c : Thread nD τ).loc main_arg4)) shapeCasts_S32_S1x32

/-- The host operations leave the patch matrix and the two bias rows in the arrays the windows read. -/
theorem V_main_v2 : V m c main_v2 = patches m c := by
  unfold V patches
  after_results_simp <;> rfl
theorem V_main_v3 : V m c main_v3 = bq m c := by
  unfold V bq
  after_results_simp <;> rfl
theorem V_main_v4 : V m c main_v4 = bk m c := by
  unfold V bk
  after_results_simp <;> rfl

/-- Every window index of the five inputs is zero. -/
theorem index_zero (t : Fin cfg0.N) : (∀ a, win0_0.index t a = 0) ∧ (∀ a, win0_1.index t a = 0) ∧ (∀ a, win0_2.index t a = 0)
    ∧ (∀ a, win0_3.index t a = 0) ∧ (∀ a, win0_4.index t a = 0) := by
  rcases fin_N0 t with rfl | rfl | rfl | rfl <;> decide

/-- An array's block at offset zero of the array's own extents is the whole array. -/
theorem whole_block (b : Ref sig .tc) {index : Fin b.ty.shape.rank → Nat} (h : ∀ a, index a = 0)
    (hb : ∀ a, index a * b.ty.shape.size a + b.ty.shape.size a ≤ b.ty.shape.size a) (x : b.ty.Contents (Elt F)) :
    ((Memref.whole b).access (Rect.unit (fun a => index a * b.ty.shape.size a) b.ty.shape.size hb)).read (Elt F) x = x :=
  Memref.read_access_unit_zero (Elt F) b (funext fun a => by rw [h a, Nat.zero_mul]) hb x

/-- Each input block is its whole array, at every point. -/
theorem iblk0 (t : Fin cfg0.N) : (iblk m c 0 t : Vec F S4096x192 .f32) = patches m c :=
  (whole_block main_v2 (index_zero t).1 _ (V m c main_v2)).trans (V_main_v2 m c)
theorem iblk1 (t : Fin cfg0.N) : (iblk m c 1 t : Vec F S192x32 .f32) = wq m c :=
  (whole_block main_arg1 (index_zero t).2.1 _ (V m c main_arg1)).trans (V_main_arg1 m c)
theorem iblk2 (t : Fin cfg0.N) : (iblk m c 2 t : Vec F S1x32 .f32) = bq m c :=
  (whole_block main_v3 (index_zero t).2.2.1 _ (V m c main_v3)).trans (V_main_v3 m c)
theorem iblk3 (t : Fin cfg0.N) : (iblk m c 3 t : Vec F S192x32 .f32) = wk m c :=
  (whole_block main_arg3 (index_zero t).2.2.2.1 _ (V m c main_arg3)).trans (V_main_arg3 m c)
theorem iblk4 (t : Fin cfg0.N) : (iblk m c 4 t : Vec F S1x32 .f32) = bk m c :=
  (whole_block main_v4 (index_zero t).2.2.2.2 _ (V m c main_v4)).trans (V_main_v4 m c)

/-- The projected keys. -/
def keys : Vec F S4096x32 .f32 := k0_pay393 (patches m c) (wk m c) (bk m c)

/-- The column sums after point `n`: from zero, each point adds its block's. -/
def chain : (n : ℕ) → n < cfg0.N → Vec F S1x4096 .f32
  | 0, h => sums (grid0.coords ⟨0, h⟩) (patches m c) (wq m c) (bq m c) (keys m c) k0_pay394
  | n + 1, h => sums (grid0.coords ⟨n + 1, h⟩) (patches m c) (wq m c) (bq m c) (keys m c) (chain n (Nat.lt_of_succ_lt h))

/-- The column sums and the keys that stand after point `n`. -/
theorem outsAt_eq : ∀ (n : ℕ) (h : n < cfg0.N), (outsAt0 m c n h).1 = chain m c n h ∧ (outsAt0 m c n h).2.2.2 = keys m c
  | 0, h => by
    rw [outsAt0_A m c ⟨0, h⟩ rfl (by simp)]
    dsimp only
    rw [out_A5, sout_A, iblk0, iblk1, iblk2, iblk3, iblk4]
    exact ⟨rfl, rfl⟩
  | n + 1, h => by
    have hN : cfg0.N = 4 := N_0
    have hA : ¬(⟨n + 1, h⟩ : Fin cfg0.N).val % 4 = 0 := by dsimp only; omega
    obtain ⟨e1, e2⟩ := outsAt_eq n (Nat.lt_of_succ_lt h)
    by_cases h3 : (⟨n + 1, h⟩ : Fin cfg0.N).val % 4 = 3
    · rw [outsAt0_C m c ⟨n + 1, h⟩ hA h3]
      dsimp only
      rw [out_C5, iblk0, iblk1, iblk2]
      unfold sout0_C_0
      refine ⟨?_, e2⟩
      show sums _ _ _ _ (outsAt0 m c n _).2.2.2 (outsAt0 m c n _).1 = _
      rw [e1, e2]
      rfl
    · rw [outsAt0_B m c ⟨n + 1, h⟩ hA h3]
      dsimp only
      rw [out_B5, iblk0, iblk1, iblk2]
      unfold sout0_B_0
      refine ⟨?_, e2⟩
      show sums _ _ _ _ (outsAt0 m c n _).2.2.2 (outsAt0 m c n _).1 = _
      rw [e1, e2]
      rfl

/-- The column sums after the last point. -/
def total : Vec F S1x4096 .f32 := chain m c 3 (by rw [show cfg0.N = 4 from N_0]; decide)

/-- The two rows that stand after the last point. -/
theorem rows_eq (h : 3 < cfg0.N) : (outsAt0 m c 3 h).2.1 = valueRow (total m c) 64 ∧ (outsAt0 m c 3 h).2.2.1 = indexRow (total m c) 64 := by
  obtain ⟨e1, e2⟩ := outsAt_eq m c 2 (Nat.lt_of_succ_lt h)
  rw [outsAt0_C m c ⟨3, h⟩ (by simp) rfl]
  dsimp only
  have hc := out_C67 c (grid0.coords ⟨3, h⟩) (ms0_0 ⟨3, h⟩) (hs0_0 ⟨3, h⟩) (ms0_1 ⟨3, h⟩) (hs0_1 ⟨3, h⟩) (ms0_2 ⟨3, h⟩) (hs0_2 ⟨3, h⟩)
    (ms0_3 ⟨3, h⟩) (hs0_3 ⟨3, h⟩) (ms0_4 ⟨3, h⟩) (hs0_4 ⟨3, h⟩) (ms0_5 ⟨3, h⟩) (hs0_5 ⟨3, h⟩) (ms0_6 ⟨3, h⟩) (hs0_6 ⟨3, h⟩)
    (ms0_7 ⟨3, h⟩) (hs0_7 ⟨3, h⟩) scM0_0 (Memref.isWhole_whole _) (patches m c) (wq m c) (bq m c) (wk m c) (bk m c)
    (chain m c 2 (Nat.lt_of_succ_lt h)) (keys m c)
  rw [← e1, ← e2] at hc
  rw [iblk0, iblk1, iblk2, iblk3, iblk4]
  unfold total chain
  rw [← e1, ← e2]
  exact hc _ _

/-- THE RESULT ARRAYS: the finished column sums, and the two rows of sixty-four rounds on them. -/
theorem result : Value.G5 m c = total m c ∧ Value.G6 m c = valueRow (total m c) 64 ∧ Value.G7 m c = indexRow (total m c) 64 := by
  have h : 3 < cfg0.N := lt_of_lt_of_eq (by decide) N_0.symm
  rw [Value.G5_last, Value.G6_last, Value.G7_last, ← Value.outsAt0_sweep m c 3 h]
  exact ⟨(outsAt_eq m c 3 h).1, rows_eq m c h⟩

end Cert.KernelIdeal.Array
-- ==== Proof.Model.lean ====
/- The problem's mathematics over the real numbers: projections, scores, softmax weights and their column sums, and
   the facts about extended reals that carry finite arrays to it. -/
module

public import Idealize.ShloMosaic.PureOps.Ideal

@[expose] public section

noncomputable section

open Idealize.ShloMosaic

namespace Cert.Model

/-- A linear projection with a bias: row `r` of `Y` against column `d` of `W`, plus `b d`. -/
def proj {n m l : Nat} (Y : Fin n → Fin m → ℝ) (W : Fin m → Fin l → ℝ) (b : Fin l → ℝ) (r : Fin n) (d : Fin l) : ℝ :=
  (∑ k, Y r k * W k d) + b d

/-- The score of query `r` against key `c`. -/
def score {n m l : Nat} (Q : Fin n → Fin l → ℝ) (K : Fin m → Fin l → ℝ) (r : Fin n) (c : Fin m) : ℝ :=
  ∑ d, Q r d * K c d

/-- The softmax weight of key `c` for query `r`. -/
def attn {n m l : Nat} (Q : Fin n → Fin l → ℝ) (K : Fin m → Fin l → ℝ) (r : Fin n) (c : Fin m) : ℝ :=
  Real.exp (score Q K r c) / ∑ c', Real.exp (score Q K r c')

/-- A sum of real numbers read as extended reals is the real sum. -/
theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- The greatest of finitely many extended reals, from −∞, is one of them. -/
theorem exists_fold_max {ι : Type} [Fintype ι] [Nonempty ι] (f : ι → EReal) :
    ∃ k, (Finset.univ : Finset ι).fold max ⊥ f = f k := by
  obtain ⟨k, -, hk⟩ := Finset.exists_mem_eq_sup (Finset.univ : Finset ι) Finset.univ_nonempty f
  exact ⟨k, hk⟩

/-- A quotient of reals with a nonzero denominator is the real quotient. -/
theorem div_coe_coe {x y : ℝ} (h : y ≠ 0) : Ideal.div (x : EReal) (y : EReal) = ((x / y : ℝ) : EReal) := by
  rw [Ideal.div_coe h, ← EReal.coe_mul, mul_one_div]

/-- SHIFT INVARIANCE: exponentials of scores less any real shift, over their sum, are the softmax weights. -/
theorem shifted_softmax {n : Nat} [NeZero n] (s : Fin n → ℝ) (b : ℝ) (c : Fin n) :
    Ideal.div (Real.exp (s c - b) : EReal) (∑ c', (Real.exp (s c' - b) : EReal))
      = ((Real.exp (s c) / ∑ c', Real.exp (s c') : ℝ) : EReal) := by
  have hs : ∀ c', Real.exp (s c' - b) = Real.exp (s c') * Real.exp (-b) := fun c' => by rw [← Real.exp_add]; ring_nf
  have hpos : 0 < ∑ c', Real.exp (s c') := Finset.sum_pos (fun c' _ => Real.exp_pos _) Finset.univ_nonempty
  rw [← coe_sum]
  simp only [hs]
  rw [← Finset.sum_mul, div_coe_coe (mul_pos hpos (Real.exp_pos _)).ne', mul_div_mul_right _ _ (Real.exp_pos _).ne']

/-- The square root of a real that is not negative is a real. -/
theorem sqrt_coe_nonneg {r : ℝ} (h : 0 ≤ r) : Ideal.sqrt (r : EReal) = (Real.sqrt r : EReal) := by
  rw [Ideal.sqrt_coe, if_neg (not_lt.mpr h)]

/-- The pattern 0xFF800000 denotes −∞. -/
theorem ofBits_negInf : Ideal.ofBits .f32 0xFF800000#32 = ⊥ := by simp [Ideal.ofBits, Ideal.ieee]

end Cert.Model
-- ==== Proof.Block.lean ====
/- What one block of the kernel computes from finite inputs: the projected keys, and the softmax weights of the
   block's 1024 queries against all keys. -/
module

public import proofs.«01_k».proof.Proof.Model
public import proofs.«01_k».proof.Proof.Gen.KernelIdeal.Skeleton
public import Idealize.ShloMosaic.Lib.Pointwise

@[expose] public section

set_option maxRecDepth 16384

noncomputable section

open Idealize.ShloMosaic Idealize.ShloMosaic.TcCoe Idealize.SL.Sem

namespace Cert.KernelIdeal.Block

open Cert.KernelIdeal Cert.KernelIdeal.Gen Cert.Model

section stages
variable {F : FTy → Type} [FloatOps F]

/-- The block's projected queries. -/
def queries (y : Vec F S1024x192 .f32) (w : Vec F S192x32 .f32) (b : Vec F S1x32 .f32) : FVec F S1024x32 .f32 :=
  addf (matmul (F := F) dot_S1024x192_S192x32_S1024x32_1_0_0_1_n_n none (shapeCast S1024x192 y shapeCasts_S1024x192_S1024x192) w
      (constant S1024x32 .f32 0x00000000#32))
    (broadcastTo S1024x32 (shapeCast S1x32 b shapeCasts_S1x32_S1x32) broadcasts_S1x32_S1024x32)

/-- The greatest squared norm of a key. -/
def keyNorm (k : FVec F S4096x32 .f32) : F .f32 :=
  extractAt ![0, 0, 0] (shapeCast S1x1x1 (multiReduction .maximumf [1, 2] S1
    (shapeCast S1x4096x1 (shapeCast S4096x1 (multiReduction .add [1] S4096 (mulf k k) 0x00000000#32 reduces_S4096x32_S4096 (.inl rfl) rfl)
      shapeCasts_S4096_S4096x1) shapeCasts_S4096x1_S1x4096x1)
    0xFF800000#32 reduces_S1x4096x1_S1 (.inl rfl) rfl) shapeCasts_S1_S1x1x1) inpos_S1x1x1_p0_0_0

/-- The shift of each query: the square root of its squared norm times the greatest squared norm of a key. -/
def shift (q : FVec F S1024x32 .f32) (n : F .f32) : FVec F S1024x1 .f32 :=
  sqrt (mulf (shapeCast S1024x1 (multiReduction .add [1] S1024 (mulf q q) 0x00000000#32 reduces_S1024x32_S1024 (.inl rfl) rfl)
    shapeCasts_S1024_S1024x1) (broadcast S1024x1 n))

/-- The exponentials of the shifted scores. -/
def expo (q : FVec F S1024x32 .f32) (k : FVec F S4096x32 .f32) (b : FVec F S1024x1 .f32) : FVec F S1024x4096 .f32 :=
  exp (subf (matmul (F := F) dot_S1024x32_S4096x32_S1024x4096_1_1_0_0_n_n none q k (constant S1024x4096 .f32 0x00000000#32))
    (broadcastTo S1024x4096 b broadcasts_S1024x1_S1024x4096))

/-- Each row over its sum. -/
def normalized (p : FVec F S1024x4096 .f32) : FVec F S1024x4096 .f32 :=
  divf p (broadcastTo S1024x4096 (shapeCast S1024x1 (multiReduction .add [1] S1024 p 0x00000000#32 reduces_S1024x4096_S1024 (.inl rfl) rfl)
    shapeCasts_S1024_S1024x1) broadcasts_S1024x1_S1024x4096)

/-- The block's payload is these stages in order. -/
theorem pay396_eq (y : Vec F S1024x192 .f32) (w : Vec F S192x32 .f32) (b : Vec F S1x32 .f32) (k : Vec F S4096x32 .f32) :
    k0_pay396 y w b k k = normalized (expo (queries y w b) k (shift (queries y w b) (keyNorm k))) := rfl

end stages

variable (Y : Fin 1024 → Fin 192 → ℝ) (Y' : Fin 4096 → Fin 192 → ℝ) (W : Fin 192 → Fin 32 → ℝ) (B : Fin 32 → ℝ)
  (Q : Fin 1024 → Fin 32 → ℝ) (K : Fin 4096 → Fin 32 → ℝ)

/-- The projected keys are the projection of the patches. -/
theorem keys_apply (y : Vec Ideal S4096x192 .f32) (w : Vec Ideal S192x32 .f32) (b : Vec Ideal S1x32 .f32)
    (hy : ∀ r k, y (ix2 r k) = (Y' r k : EReal)) (hw : ∀ k d, w (ix2 k d) = (W k d : EReal)) (hb : ∀ d, b (ix2 0 d) = (B d : EReal))
    (r : Fin 4096) (d : Fin 32) : k0_pay393 y w b (ix2 r d) = (proj Y' W B r d : EReal) := by
  pointwise [k0_pay393]
  simp only [hy, hw, hb, proj, EReal.coe_add, coe_sum, EReal.coe_mul]

/-- The projected queries are the projection of the block's patches. -/
theorem queries_apply (y : Vec Ideal S1024x192 .f32) (w : Vec Ideal S192x32 .f32) (b : Vec Ideal S1x32 .f32)
    (hy : ∀ r k, y (ix2 r k) = (Y r k : EReal)) (hw : ∀ k d, w (ix2 k d) = (W k d : EReal)) (hb : ∀ d, b (ix2 0 d) = (B d : EReal))
    (r : Fin 1024) (d : Fin 32) : queries y w b (ix2 r d) = (proj Y W B r d : EReal) := by
  pointwise [queries]
  simp only [hy, hw, hb, proj, EReal.coe_add, coe_sum, EReal.coe_mul]

/-- The greatest squared norm of a finite key is a real that is not negative. -/
theorem keyNorm_real (k : FVec Ideal S4096x32 .f32) (hk : ∀ c d, k (ix2 c d) = (K c d : EReal)) :
    ∃ n : ℝ, 0 ≤ n ∧ keyNorm k = (n : EReal) := by
  pointwise [keyNorm]
  rw [Model.ofBits_negInf]
  obtain ⟨k', h⟩ := exists_fold_max fun x : Fin 4096 × Fin 1 => ∑ d, k (ix2 x.1 d) * k (ix2 x.1 d)
  refine ⟨∑ d, K k'.1 d * K k'.1 d, Finset.sum_nonneg fun d _ => mul_self_nonneg _, h.trans ?_⟩
  simp only [hk, coe_sum, EReal.coe_mul]

/-- The shift of a finite query is a real. -/
theorem shift_real (q : FVec Ideal S1024x32 .f32) (hq : ∀ r d, q (ix2 r d) = (Q r d : EReal)) (n : ℝ) (hn : 0 ≤ n) (r : Fin 1024) :
    ∃ b : ℝ, shift (F := Ideal) q (n : EReal) (ix2 r 0) = (b : EReal) := by
  refine ⟨Real.sqrt ((∑ d, Q r d * Q r d) * n), ?_⟩
  pointwise [shift]
  rw [← sqrt_coe_nonneg (mul_nonneg (Finset.sum_nonneg fun d _ => mul_self_nonneg _) hn)]
  simp only [hq, coe_sum, EReal.coe_mul]

/-- The exponential of a finite score less a real shift. -/
theorem expo_apply (q : FVec Ideal S1024x32 .f32) (hq : ∀ r d, q (ix2 r d) = (Q r d : EReal)) (k : FVec Ideal S4096x32 .f32)
    (hk : ∀ c d, k (ix2 c d) = (K c d : EReal)) (b : FVec Ideal S1024x1 .f32) (r : Fin 1024) (b' : ℝ) (hb : b (ix2 r 0) = (b' : EReal))
    (c : Fin 4096) : expo q k b (ix2 r c) = (Real.exp (score Q K r c - b') : EReal) := by
  pointwise [expo]
  rw [← Ideal.exp_coe]
  simp only [hq, hk, hb, score, EReal.coe_sub, coe_sum, EReal.coe_mul]

/-- An element over the sum of its row. -/
theorem normalized_apply (p : FVec Ideal S1024x4096 .f32) (r : Fin 1024) (c : Fin 4096) :
    normalized p (ix2 r c) = Ideal.div (p (ix2 r c)) (∑ c', p (ix2 r c')) := by
  pointwise [normalized]

/-- THE BLOCK: from finite inputs it computes the softmax weights of its queries against all keys. -/
theorem weights_apply (y : Vec Ideal S1024x192 .f32) (w : Vec Ideal S192x32 .f32) (b : Vec Ideal S1x32 .f32) (k : Vec Ideal S4096x32 .f32)
    (hy : ∀ r k, y (ix2 r k) = (Y r k : EReal)) (hw : ∀ k d, w (ix2 k d) = (W k d : EReal)) (hb : ∀ d, b (ix2 0 d) = (B d : EReal))
    (hk : ∀ c d, k (ix2 c d) = (K c d : EReal)) (r : Fin 1024) (c : Fin 4096) :
    k0_pay396 y w b k k (ix2 r c) = (attn (proj Y W B) K r c : EReal) := by
  have hq := queries_apply Y W B y w b hy hw hb
  obtain ⟨n, hn, hkn⟩ := keyNorm_real K k hk
  obtain ⟨b', hb'⟩ := shift_real (proj Y W B) _ hq n hn r
  rw [pay396_eq, normalized_apply, hkn]
  simp only [expo_apply (proj Y W B) K _ hq k hk _ r b' hb']
  exact shifted_softmax (fun c => score (proj Y W B) K r c) b' c

/-- The column sums of a block added to a row of column sums. -/
theorem addSums_apply (o : FVec Ideal S1x4096 .f32) (p : FVec Ideal S1024x4096 .f32) (c : Fin 4096) :
    k0_pay1 (k0_pay395 o) p (ix2 0 c) = o (ix2 0 c) + ∑ r, p (ix2 r c) := by
  pointwise [k0_pay1, k0_pay395]

end Cert.KernelIdeal.Block
-- ==== Proof.Sums.lean ====
/- The kernel's finished column sums from finite inputs: the sum over all 4096 queries of the softmax weights. -/
module

public import proofs.«01_k».proof.Proof.Array
public import proofs.«01_k».proof.Proof.Block

@[expose] public section

set_option maxRecDepth 16384

noncomputable section

open Idealize.ShloMosaic Idealize.ShloMosaic.TcCoe Idealize.SL.Sem

namespace Cert.KernelIdeal.Sums

open Cert.KernelIdeal Cert.KernelIdeal.Gen Cert.KernelIdeal.Cases Cert.KernelIdeal.Array Cert.Model

/-- The first row of point `t`'s block of queries is row `1024 t`. -/
theorem off_eq (t : Fin cfg0.N) : k0_off1 (grid0.coords t) 0 = 1024 * t.val ∧ k0_off1 (grid0.coords t) 1 = 0 := by
  rcases fin_N0 t with rfl | rfl | rfl | rfl <;> decide

/-- The block of queries at point `t` reads rows `1024 t`, …, `1024 t + 1023` of the patch matrix. -/
theorem rows_apply (t : Fin cfg0.N) (x : Vec Ideal S4096x192 .f32) (r : Fin 1024) (k : Fin 192) (h : 1024 * t.val + r.val < 4096) :
    rows (grid0.coords t) x (ix2 r k) = x (ix2 ⟨1024 * t.val + r.val, h⟩ k) := by
  unfold rows View.ld
  refine congrArg x (funext fun a => Fin.ext ?_)
  match a with
  | ⟨0, _⟩ => show k0_off1 (grid0.coords t) 0 + 1 * r.val = 1024 * t.val + r.val; rw [(off_eq t).1]; omega
  | ⟨1, _⟩ => show k0_off1 (grid0.coords t) 1 + 1 * k.val = k.val; rw [(off_eq t).2]; omega

/-- A real function of the 4096 queries, by number, zero beyond. -/
def byNumber (f : Fin 4096 → ℝ) (n : ℕ) : ℝ := if h : n < 4096 then f ⟨n, h⟩ else 0

/-- Summing by number over all 4096 is summing over all. -/
theorem sum_byNumber (f : Fin 4096 → ℝ) : ∑ n ∈ Finset.range 4096, byNumber f n = ∑ r, f r := by
  rw [Finset.sum_range]
  exact Finset.sum_congr rfl fun r _ => dif_pos r.isLt

/-- One block's sum continues the sum by number. -/
theorem sum_block (f : Fin 4096 → ℝ) (t : ℕ) (ht : t < 4) :
    ∑ n ∈ Finset.range (1024 * t), byNumber f n + ∑ r : Fin 1024, f ⟨1024 * t + r.val, by omega⟩
      = ∑ n ∈ Finset.range (1024 * (t + 1)), byNumber f n := by
  rw [Nat.mul_succ, Finset.sum_range_add, Finset.sum_range (n := 1024)]
  congr 1
  refine Finset.sum_congr rfl fun r _ => ?_
  have h : 1024 * t + r.val < 4096 := by have := r.isLt; omega
  unfold byNumber
  rw [dif_pos h]

variable (m : (ℓ : Loc nD τ sig) → Buf (Elt Ideal) ℓ) (c : Dev nD)
  (P : Fin 4096 → Fin 192 → ℝ) (Wq Wk : Fin 192 → Fin 32 → ℝ) (Bq Bk : Fin 32 → ℝ)

/-- A point's column sums: what it finds, plus its 1024 queries' softmax weights. -/
theorem point_apply (hP : ∀ r k, patches m c (ix2 r k) = (P r k : EReal)) (h1 : ∀ k d, wq m c (ix2 k d) = (Wq k d : EReal))
    (h2 : ∀ d, bq m c (ix2 0 d) = (Bq d : EReal)) (h3 : ∀ k d, wk m c (ix2 k d) = (Wk k d : EReal))
    (h4 : ∀ d, bk m c (ix2 0 d) = (Bk d : EReal)) (t : Fin cfg0.N) (ht : t.val < 4) (xo : Vec Ideal S1x4096 .f32) (k : Fin 4096) :
    sums (grid0.coords t) (patches m c) (wq m c) (bq m c) (keys m c) xo (ix2 0 k)
      = xo (ix2 0 k) + ((∑ r : Fin 1024, attn (proj P Wq Bq) (proj P Wk Bk) ⟨1024 * t.val + r.val, by omega⟩ k : ℝ) : EReal) := by
  have hk := Block.keys_apply P Wk Bk (patches m c) (wk m c) (bk m c) hP h3 h4
  unfold sums
  rw [Block.addSums_apply, coe_sum]
  congr 1
  refine Finset.sum_congr rfl fun r _ => ?_
  exact Block.weights_apply (fun r => P ⟨1024 * t.val + r.val, by omega⟩) Wq Bq (proj P Wk Bk) _ _ _ _
    (fun r k => (rows_apply t _ r k (by omega)).trans (hP _ _)) h1 h2 hk r k

/-- The column sums after point `n`: over the first `1024 (n + 1)` queries. -/
theorem chain_apply (hP : ∀ r k, patches m c (ix2 r k) = (P r k : EReal)) (h1 : ∀ k d, wq m c (ix2 k d) = (Wq k d : EReal))
    (h2 : ∀ d, bq m c (ix2 0 d) = (Bq d : EReal)) (h3 : ∀ k d, wk m c (ix2 k d) = (Wk k d : EReal))
    (h4 : ∀ d, bk m c (ix2 0 d) = (Bk d : EReal)) (k : Fin 4096) (n : ℕ) (h : n < cfg0.N) :
    chain m c n h (ix2 0 k)
      = ((∑ r ∈ Finset.range (1024 * (n + 1)), byNumber (fun r => attn (proj P Wq Bq) (proj P Wk Bk) r k) r : ℝ) : EReal) := by
  have hN : cfg0.N = 4 := N_0
  induction n with
  | zero =>
    have hz : k0_pay394 (F := Ideal) (ix2 0 k) = (0 : EReal) := by pointwise [k0_pay394]
    have hb := sum_block (fun r => attn (proj P Wq Bq) (proj P Wk Bk) r k) 0 (by omega)
    rw [show Finset.range (1024 * 0) = ∅ from rfl, Finset.sum_empty, zero_add] at hb
    rw [chain, point_apply m c P Wq Wk Bq Bk hP h1 h2 h3 h4 ⟨0, h⟩ (by omega) _ k, hz, zero_add]
    exact congrArg _ hb
  | succ n ih =>
    rw [chain, point_apply m c P Wq Wk Bq Bk hP h1 h2 h3 h4 ⟨n + 1, h⟩ (by omega) _ k, ih, ← EReal.coe_add]
    exact congrArg _ (sum_block (fun r => attn (proj P Wq Bq) (proj P Wk Bk) r k) (n + 1) (by omega))

/-- THE COLUMN SUMS of the kernel. -/
theorem total_apply (hP : ∀ r k, patches m c (ix2 r k) = (P r k : EReal)) (h1 : ∀ k d, wq m c (ix2 k d) = (Wq k d : EReal))
    (h2 : ∀ d, bq m c (ix2 0 d) = (Bq d : EReal)) (h3 : ∀ k d, wk m c (ix2 k d) = (Wk k d : EReal))
    (h4 : ∀ d, bk m c (ix2 0 d) = (Bk d : EReal)) (k : Fin 4096) :
    total m c (ix2 0 k) = ((∑ r, attn (proj P Wq Bq) (proj P Wk Bk) r k : ℝ) : EReal) := by
  unfold total
  rw [chain_apply m c P Wq Wk Bq Bk hP h1 h2 h3 h4, ← sum_byNumber]

end Cert.KernelIdeal.Sums
-- ==== Proof.Patches.lean ====
/- Cutting the image into patches: the kernel's three host steps and the reference's three give the same matrix. -/
module

public import proofs.«01_k».proof.Proof.Array
public import proofs.«01_k».proof.Proof.Gen.ReferenceIdeal.Read
public import Idealize.ShloMosaic.Lib.Pointwise

@[expose] public section

set_option maxRecDepth 16384

noncomputable section

open Idealize.ShloMosaic Idealize.ShloMosaic.TcCoe Idealize.SL.Sem

namespace Cert.KernelIdeal.Patches

open Cert.KernelIdeal Cert.KernelIdeal.Gen

variable (m : (ℓ : Loc nD τ sig) → Buf (Elt Ideal) ℓ) (c : Dev nD)

/-- The pixel component of the image that entry `k` of patch `r` holds: patches run along image rows, 64 to a row; in
    a patch, 8 rows of 8 pixels of 3 components. -/
def pixel (r : Fin 4096) (k : Fin 192) : Cert.ReferenceIdeal.S512x512x3.Idx :=
  ix3 ⟨r.val / 64 * 8 + k.val / 24, by omega⟩ ⟨r.val % 64 * 8 + k.val % 24 / 3, by omega⟩ ⟨k.val % 3, by omega⟩

/-- The reference's patch matrix, entry by entry. -/
theorem reference_apply (x : FVec Ideal Cert.ReferenceIdeal.S512x512x3 .f32) (r : Fin 4096) (k : Fin 192) :
    Cert.ReferenceIdeal.Read.val_main_v2 (F := Ideal) x (ix2 r k) = x (pixel r k) := by
  rw [Cert.ReferenceIdeal.Read.val_main_v2_apply, Cert.ReferenceIdeal.Read.val_main_v1_apply, Cert.ReferenceIdeal.Read.val_main_v0_apply]
  have hr := r.isLt
  have hk := k.isLt
  have e0 : (r.val * 192 + k.val) / 12288 = r.val / 64 := by omega
  have e1 : (r.val * 192 + k.val) / 192 % 64 = r.val % 64 := by omega
  have e2 : (r.val * 192 + k.val) / 24 % 8 = k.val / 24 := by omega
  have e3 : (r.val * 192 + k.val) / 3 % 8 = k.val % 24 / 3 := by omega
  have e4 : (r.val * 192 + k.val) % 3 = k.val % 3 := by omega
  refine congrArg x (funext fun a => Fin.ext ?_)
  match a with
  | ⟨0, _⟩ =>
    show ((((((r.val * 192 + k.val) / 12288) * 8 + (r.val * 192 + k.val) / 24 % 8) * 64 + (r.val * 192 + k.val) / 192 % 64) * 8
      + (r.val * 192 + k.val) / 3 % 8) * 3 + (r.val * 192 + k.val) % 3) / 1536 = r.val / 64 * 8 + k.val / 24
    rw [e0, e1, e2, e3, e4]
    omega
  | ⟨1, _⟩ =>
    show ((((((r.val * 192 + k.val) / 12288) * 8 + (r.val * 192 + k.val) / 24 % 8) * 64 + (r.val * 192 + k.val) / 192 % 64) * 8
      + (r.val * 192 + k.val) / 3 % 8) * 3 + (r.val * 192 + k.val) % 3) / 3 % 512 = r.val % 64 * 8 + k.val % 24 / 3
    rw [e0, e1, e2, e3, e4]
    omega
  | ⟨2, _⟩ =>
    show ((((((r.val * 192 + k.val) / 12288) * 8 + (r.val * 192 + k.val) / 24 % 8) * 64 + (r.val * 192 + k.val) / 192 % 64) * 8
      + (r.val * 192 + k.val) / 3 % 8) * 3 + (r.val * 192 + k.val) % 3) % 3 = k.val % 3
    rw [e0, e1, e2, e3, e4]
    omega

/-- The kernel's patch matrix, entry by entry. -/
theorem kernel_apply (r : Fin 4096) (k : Fin 192) :
    Array.patches m c (ix2 r k) = (m ((c : Thread nD τ).loc main_arg0) : FVec Ideal Cert.ReferenceIdeal.S512x512x3 .f32) (pixel r k) := by
  unfold Array.patches
  generalize m ((c : Thread nD τ).loc main_arg0) = x
  have hr := r.isLt
  have hk := k.isLt
  refine (shapeCast_apply _ _ (ix2 r k) (ix4 ⟨r.val / 64, by omega⟩ ⟨r.val % 64, by omega⟩ ⟨k.val / 24, by omega⟩ ⟨k.val % 24, by omega⟩) ?_).trans ?_
  · rw [Shape.rowMajor_val_four, Shape.rowMajor_val_two]
    show ((r.val / 64 * 64 + r.val % 64) * 8 + k.val / 24) * 24 + k.val % 24 = r.val * 192 + k.val
    omega
  refine (transpose_apply [0, 2, 1, 3] _ _ _ (ix4 ⟨r.val / 64, by omega⟩ ⟨k.val / 24, by omega⟩ ⟨r.val % 64, by omega⟩ ⟨k.val % 24, by omega⟩) ?_).trans ?_
  · intro b
    match b with
    | ⟨0, _⟩ => rfl
    | ⟨1, _⟩ => rfl
    | ⟨2, _⟩ => rfl
    | ⟨3, _⟩ => rfl
  refine shapeCast_apply _ _ _ (pixel r k) ?_
  rw [Shape.rowMajor_val_three, Shape.rowMajor_val_four]
  show ((r.val / 64 * 8 + k.val / 24) * 512 + (r.val % 64 * 8 + k.val % 24 / 3)) * 3 + k.val % 3
    = ((r.val / 64 * 8 + k.val / 24) * 64 + r.val % 64) * 24 + k.val % 24
  omega

/-- THE PATCH MATRICES AGREE. -/
theorem agree (r : Fin 4096) (k : Fin 192) :
    Array.patches m c (ix2 r k) = Cert.ReferenceIdeal.Read.val_main_v2 (F := Ideal) (m ((c : Thread nD τ).loc main_arg0)) (ix2 r k) :=
  (kernel_apply m c r k).trans (reference_apply _ r k).symm

end Cert.KernelIdeal.Patches
-- ==== Proof.Order.lean ====
/- The descending order of finitely many extended reals, equal ones in position order, as a stable sort makes it; and
   why taking the greatest again and again, each time the first of equals, walks through it. -/
module

public import Idealize.ShloMosaic.PureOps.Ideal
public import Idealize.ShloMosaic.Lib.SortFacts

@[expose] public section

noncomputable section

open Idealize.ShloMosaic

namespace Cert.Order

variable {n : Nat}

/-- Position `a` comes before position `b`: its value is greater, or equal and `a` is the lower position. -/
def Beats (f : Fin n → EReal) (a b : Fin n) : Prop := f b < f a ∨ (f b = f a ∧ a < b)

/-- The position that a stable descending sort of `f` puts at `k`. -/
def order (f : Fin n → EReal) (k : Fin n) : Fin n := sortedFrom (fun a b => decide (f b < f a)) k

/-- Inserting a position into a list that `Beats` sorts, all of it at higher positions, leaves the list sorted. -/
theorem insert_sorted (f : Fin n → EReal) (a : Fin n) (l : List (Fin n)) (hl : l.Pairwise (Beats f)) (ha : ∀ b ∈ l, a < b) :
    (insertBefore (fun a b => decide (f b < f a)) a l).Pairwise (Beats f) := by
  induction l with
  | nil => exact List.pairwise_singleton _ _
  | cons b l ih =>
    rw [List.pairwise_cons] at hl
    unfold insertBefore
    split
    · rename_i h
      refine List.pairwise_cons.mpr ⟨fun c hc => ?_, ih hl.2 fun c hc => ha c (List.mem_cons_of_mem b hc)⟩
      rcases List.mem_cons.mp ((perm_insertBefore _ a l).mem_iff.mp hc) with rfl | hc'
      · exact .inl (of_decide_eq_true h)
      · exact hl.1 c hc'
    · rename_i h
      have hab : f b ≤ f a := not_lt.mp fun h' => h (decide_eq_true h')
      refine List.pairwise_cons.mpr ⟨fun c hc => ?_, List.pairwise_cons.mpr hl⟩
      have hca : f c ≤ f a := by
        rcases List.mem_cons.mp hc with rfl | hc'
        · exact hab
        · rcases hl.1 c hc' with h' | h'
          · exact h'.le.trans hab
          · exact h'.1.le.trans hab
      rcases hca.lt_or_eq with h' | h'
      · exact .inl h'
      · exact .inr ⟨h', ha c hc⟩

/-- A list of rising positions sorted stably is sorted by `Beats`. -/
theorem sort_sorted (f : Fin n → EReal) (l : List (Fin n)) (hl : l.Pairwise (· < ·)) :
    (stableSort (fun a b => decide (f b < f a)) l).Pairwise (Beats f) := by
  induction l with
  | nil => exact List.Pairwise.nil
  | cons a l ih =>
    rw [List.pairwise_cons] at hl
    unfold stableSort
    exact insert_sorted f a _ (ih hl.2) fun b hb => hl.1 b ((perm_stableSort _ l).mem_iff.mp hb)

/-- The order is by `Beats`. -/
theorem order_beats (f : Fin n → EReal) (i j : Fin n) (h : i < j) : Beats f (order f i) (order f j) := by
  have hp : ∀ a b : Fin (sortPositions n fun a b => decide (f b < f a)).length, a < b →
      Beats f ((sortPositions n _).get a) ((sortPositions n _).get b) :=
    List.pairwise_iff_get.mp (sort_sorted f (List.finRange n) (List.pairwise_lt_finRange n))
  unfold order sortedFrom
  exact hp _ _ (by simp only [Fin.lt_def, Fin.val_cast]; exact h)

/-- Every position stands somewhere in the order. -/
theorem order_surjective (f : Fin n → EReal) : Function.Surjective (order f) := sortedFrom_surjective _

/-- No position stands twice in the order. -/
theorem order_injective (f : Fin n → EReal) : Function.Injective (order f) := sortedFrom_injective _

/-- The values with the first `t` of the order replaced by −∞. -/
def masked (f : Fin n → EReal) (t : Nat) (k : Fin n) : EReal :=
  haveI := Classical.dec (∃ j : Fin n, j.val < t ∧ order f j = k)
  if ∃ j : Fin n, j.val < t ∧ order f j = k then ⊥ else f k

/-- `p` is the first position of the greatest value of `x`. -/
def Picks (x : Fin n → EReal) (p : Fin n) : Prop := ∀ k, x k ≤ x p ∧ (x k = x p → p ≤ k)

theorem masked_zero (f : Fin n → EReal) : masked f 0 = f := by
  funext k; simp [masked]

/-- Position `t` of the order is not among the first `t`. -/
theorem masked_order (f : Fin n → EReal) (t : Fin n) : masked f t (order f t) = f (order f t) := by
  unfold masked
  rw [if_neg]
  rintro ⟨j, hj, h⟩
  exact absurd (congrArg Fin.val (order_injective f h)) hj.ne

/-- Dropping position `t` of the order from the values after `t` drops leaves the values after `t + 1` drops. -/
theorem masked_succ (f : Fin n → EReal) (t : Fin n) (k : Fin n) :
    masked f (t + 1) k = if k = order f t then ⊥ else masked f t k := by
  unfold masked
  by_cases h : k = order f t
  · rw [if_pos h, if_pos ⟨t, Nat.lt_succ_self _, h.symm⟩]
  · rw [if_neg h]
    congr 1
    refine propext ⟨fun ⟨j, hj, e⟩ => ⟨j, ?_, e⟩, fun ⟨j, hj, e⟩ => ⟨j, by omega, e⟩⟩
    rcases Nat.lt_succ_iff_lt_or_eq.mp hj with h' | h'
    · exact h'
    · exact absurd (Fin.ext h' ▸ e.symm) h

/-- THE PICK: of values above −∞, once the first `t` of the order are dropped the greatest is position `t` of the
    order, and it is the first of its equals. -/
theorem picks_order (f : Fin n → EReal) (hf : ∀ k, ⊥ < f k) (t : Fin n) : Picks (masked f t) (order f t) := by
  intro k
  rw [masked_order]
  obtain ⟨j, rfl⟩ := order_surjective f k
  rcases lt_trichotomy j t with h | rfl | h
  · have e : masked f t (order f j) = ⊥ := by unfold masked; rw [if_pos ⟨j, h, rfl⟩]
    rw [e]
    exact ⟨bot_le, fun h' => absurd h' (hf _).ne⟩
  · rw [masked_order]
    exact ⟨le_rfl, fun _ => le_rfl⟩
  · have e : masked f t (order f j) = f (order f j) := by
      unfold masked
      rw [if_neg]
      rintro ⟨i, hi, h'⟩
      rw [order_injective f h'] at hi
      exact absurd hi (Nat.lt_asymm h)
    rw [e]
    rcases order_beats f t j h with h' | h'
    · exact ⟨h'.le, fun e => absurd e h'.ne⟩
    · exact ⟨h'.1.le, fun _ => h'.2.le⟩

end Cert.Order
-- ==== Proof.Picks.lean ====
/- What the kernel's top-k rounds compute, read at an element: each round takes the first of the greatest values left,
   so the two result rows list the column sums in descending order, equal ones in position order. -/
module

public import proofs.«01_k».proof.Proof.Order
public import proofs.«01_k».proof.Proof.Model
public import proofs.«01_k».proof.Proof.Rounds
public import Idealize.ShloMosaic.Lib.Pointwise

@[expose] public section

set_option maxRecDepth 16384

noncomputable section

open Idealize.ShloMosaic Idealize.ShloMosaic.TcCoe Idealize.SL.Sem

namespace Cert.KernelIdeal.Rounds

open Cert.KernelIdeal Cert.KernelIdeal.Gen Cert.Order

/-- The position in the row of column sums of element `(r, c)` of the block. -/
def pos (r : Fin 8) (c : Fin 512) : Fin 4096 := ⟨r.val * 512 + c.val, by omega⟩

/-- Every position is that of an element. -/
theorem exists_pos (p : Fin 4096) : ∃ r c, p = pos r c :=
  ⟨⟨p.val / 512, by omega⟩, ⟨p.val % 512, by omega⟩, Fin.ext (by simp only [pos]; omega)⟩

/-- A small natural number as a 32-bit word reads back as itself. -/
theorem toInt_small (m : Nat) (h : m ≤ 4096) : (BitVec.ofNat 32 m).toInt = m := by
  have e : (BitVec.ofNat 32 m).toNat = m := by rw [BitVec.toNat_ofNat]; omega
  rw [BitVec.toInt_eq_toNat_of_lt (by omega), e]

/-- Words of small numbers are equal only if the numbers are. -/
theorem ofNat_inj (a b : Nat) (ha : a ≤ 4096) (hb : b ≤ 4096) : BitVec.ofNat 32 a = BitVec.ofNat 32 b ↔ a = b :=
  ⟨fun h => by have := congrArg BitVec.toInt h; rw [toInt_small a ha, toInt_small b hb] at this; omega, fun h => h ▸ rfl⟩

/-- Comparing words of small numbers compares the numbers. -/
theorem select_eq {α : Type} (a b : Nat) (ha : a ≤ 4096) (hb : b ≤ 4096) (u w : α) :
    Scalar.select (IntOp.cmpi .eq (BitVec.ofNat 32 a) (BitVec.ofNat 32 b)) u w = if a = b then u else w := by
  have h1 : ∀ c : Bool, BitVec.ofBool c = 1 ↔ c = true := by decide
  simp only [Scalar.select, IntOp.cmpi, h1, beq_iff_eq, ofNat_inj a b ha hb]

/-- The signed minimum of two words is the lesser integer. -/
theorem toInt_minsi (a b : BitVec 32) : (IntOp.minsi a b).toInt = min a.toInt b.toInt := by
  unfold IntOp.minsi
  split <;> rename_i h <;> simp [BitVec.slt_iff_toInt_lt] at h <;> omega

/-- A signed minimum over a row is at least `m` where every element is. -/
theorem le_fold_minsi {n : Nat} (f : Fin n → BitVec 32) (m : Int) (hm : m ≤ 2147483647) (h : ∀ k, m ≤ (f k).toInt) :
    m ≤ ((Finset.univ : Finset (Fin n)).fold IntOp.minsi 2147483647#32 f).toInt := by
  rw [← Finset.fold_hom (op' := min) toInt_minsi]
  exact Finset.le_fold_min m |>.mpr ⟨hm, fun k _ => h k⟩

/-- A signed minimum over a row is the element that is least. -/
theorem fold_minsi_eq {n : Nat} (f : Fin n → BitVec 32) (k : Fin n) (m : Nat) (hm : m ≤ 4096) (hk : f k = BitVec.ofNat 32 m)
    (h : ∀ k', (m : Int) ≤ (f k').toInt) :
    (Finset.univ : Finset (Fin n)).fold IntOp.minsi 2147483647#32 f = BitVec.ofNat 32 m := by
  refine BitVec.eq_of_toInt_eq ?_
  rw [toInt_small m hm]
  refine le_antisymm ?_ (le_fold_minsi f m (by omega) h)
  rw [← Finset.fold_hom (op' := min) toInt_minsi]
  exact Finset.fold_min_le (m : Int) |>.mpr (.inr ⟨k, Finset.mem_univ k, by rw [hk, toInt_small m hm]⟩)

variable (x : FVec Ideal S8x512 .f32)

/-- The flat position of an element, as a word. -/
theorem flat_apply (r : Fin 8) (c : Fin 512) : flat (ix2 r c) = BitVec.ofNat 32 (pos r c) := by
  pointwise [flat, k0_pay6]
  simp only [IntOp.addi, IntOp.muli, pos, BitVec.ofNat_add, BitVec.ofNat_mul]

/-- The greatest element of a row. -/
theorem rowMax_apply (r : Fin 8) : rowMax x (ix2 r 0) = (Finset.univ : Finset (Fin 512)).sup fun c => x (ix2 r c) := by
  pointwise [rowMax]
  rw [Model.ofBits_negInf]
  rfl

/-- The greatest of the rows' greatest. -/
theorem top_apply : top x (ix2 0 0) = (Finset.univ : Finset (Fin 8)).sup fun r => rowMax x (ix2 r 0) := by
  pointwise [top]
  rw [Model.ofBits_negInf]
  rfl

/-- The least position in a row of its greatest element. -/
theorem rowArg_apply (r : Fin 8) : rowArg x (ix2 r 0)
    = (Finset.univ : Finset (Fin 512)).fold IntOp.minsi 2147483647#32
        fun c => if x (ix2 r c) = rowMax x (ix2 r 0) then BitVec.ofNat 32 (pos r c) else 4096#32 := by
  simp only [← flat_apply]
  pointwise [rowArg, isRowMax]

/-- The least of the rows' positions, over the rows that hold the greatest element. -/
theorem topAt_apply : topAt x (ix2 0 0)
    = (Finset.univ : Finset (Fin 8)).fold IntOp.minsi 2147483647#32
        fun r => if rowMax x (ix2 r 0) = top x (ix2 0 0) then rowArg x (ix2 r 0) else 4096#32 := by
  pointwise [topAt]

/-- Dropping puts −∞ at the picked position and keeps every other element. -/
theorem drop_apply (r : Fin 8) (c : Fin 512) (p : Fin 4096) (hp : topAt x (ix2 0 0) = BitVec.ofNat 32 p) :
    drop x (ix2 r c) = if pos r c = p then ⊥ else x (ix2 r c) := by
  pointwise [drop]
  rw [Model.ofBits_negInf, flat_apply, hp, select_eq _ _ (pos r c).isLt.le p.isLt.le]
  simp only [Fin.ext_iff]

/-- The element at lane `k` is the one written, any other lane keeps what it held. -/
theorem put_apply {α : Type} (k : Nat) (hk : k < 64) (u : S1x1.Idx → α) (row : S1x64.Idx → α) (l : Fin 64) :
    put (BitVec.ofNat 32 k) u row (ix2 0 l) = if l.val = k then u (ix2 0 0) else row (ix2 0 l) := by
  pointwise [put, lanes]
  exact select_eq _ _ (l.isLt.le.trans (by omega)) (hk.le.trans (by omega)) _ _

/-- Before any round the block holds the column sums. -/
theorem after_zero_apply (v : Vec Ideal S1x4096 .f32) (r : Fin 8) (c : Fin 512) : after v 0 (ix2 r c) = v (ix2 0 (pos r c)) := by
  pointwise [after]
  rfl

/-- The block read by position. -/
def at' (k : Fin 4096) : EReal := x (ix2 ⟨k.val / 512, by omega⟩ ⟨k.val % 512, by omega⟩)

/-- The element `(r, c)` is the one at its position. -/
theorem at'_pos (r : Fin 8) (c : Fin 512) : at' x (pos r c) = x (ix2 r c) := by
  have hr : (⟨(pos r c).val / 512, by omega⟩ : Fin 8) = r := Fin.ext (by simp only [pos]; omega)
  have hc : (⟨(pos r c).val % 512, by omega⟩ : Fin 512) = c := Fin.ext (by simp only [pos]; omega)
  unfold at'
  rw [hr, hc]

/-- A ROUND's VALUE: the greatest element. -/
theorem top_eq (p : Fin 4096) (hp : Picks (at' x) p) : top x (ix2 0 0) = at' x p := by
  rw [top_apply]
  simp only [rowMax_apply]
  refine le_antisymm (Finset.sup_le fun r _ => Finset.sup_le fun c _ => ?_) ?_
  · rw [← at'_pos x]
    exact (hp _).1
  · obtain ⟨r, c, rfl⟩ := exists_pos p
    rw [at'_pos]
    exact (Finset.le_sup (f := fun c => x (ix2 r c)) (Finset.mem_univ c)).trans
      (Finset.le_sup (f := fun r => (Finset.univ : Finset (Fin 512)).sup fun c => x (ix2 r c)) (Finset.mem_univ r))

/-- In a row that holds the greatest element, no position found is below `p`. -/
theorem le_found (p : Fin 4096) (hp : Picks (at' x) p) (r : Fin 8) (hr : rowMax x (ix2 r 0) = at' x p) (c : Fin 512) :
    (p.val : Int) ≤ (if x (ix2 r c) = rowMax x (ix2 r 0) then BitVec.ofNat 32 (pos r c) else 4096#32).toInt := by
  split
  · rename_i h
    rw [hr, ← at'_pos x] at h
    rw [toInt_small _ (pos r c).isLt.le]
    exact_mod_cast (hp _).2 h
  · have := toInt_small 4096 le_rfl
    omega

/-- A ROUND's POSITION: the first of the greatest elements. -/
theorem topAt_eq (p : Fin 4096) (hp : Picks (at' x) p) : topAt x (ix2 0 0) = BitVec.ofNat 32 p := by
  rw [topAt_apply, top_eq x p hp]
  obtain ⟨r, c, e⟩ := exists_pos p
  have hr : rowMax x (ix2 r 0) = at' x p := by
    refine le_antisymm ?_ ?_
    · rw [rowMax_apply]
      refine Finset.sup_le fun c' _ => ?_
      rw [← at'_pos x]
      exact (hp _).1
    · rw [rowMax_apply, e, at'_pos]
      exact Finset.le_sup (f := fun c => x (ix2 r c)) (Finset.mem_univ c)
  refine fold_minsi_eq _ r p p.isLt.le ?_ fun r' => ?_
  · rw [if_pos hr, rowArg_apply]
    refine fold_minsi_eq _ c p p.isLt.le ?_ (le_found x p hp r hr)
    rw [if_pos, e]
    rw [hr, e, at'_pos]
  · split
    · rename_i h
      rw [rowArg_apply]
      exact le_fold_minsi _ _ (by omega) (le_found x p hp r' h)
    · have := toInt_small 4096 le_rfl
      omega

variable (v : Vec Ideal S1x4096 .f32)

/-- The row of column sums read by position. -/
def sumAt (k : Fin 4096) : EReal := v (ix2 0 k)

/-- THE BLOCK AFTER `t` ROUNDS is the column sums with the first `t` of the order dropped. -/
theorem at'_after (hv : ∀ k, ⊥ < sumAt v k) (t : Nat) (ht : t ≤ 4096) : at' (after v t) = masked (sumAt v) t := by
  induction t with
  | zero =>
    rw [masked_zero]
    funext k
    obtain ⟨r, c, rfl⟩ := exists_pos k
    rw [at'_pos, after_zero_apply]
    rfl
  | succ t ih =>
    have ih := ih (by omega)
    have hp : Picks (at' (after v t)) (order (sumAt v) ⟨t, ht⟩) := by
      rw [ih]; exact picks_order _ hv ⟨t, ht⟩
    funext k
    rw [masked_succ _ ⟨t, ht⟩, ← ih]
    obtain ⟨r, c, rfl⟩ := exists_pos k
    rw [at'_pos, at'_pos]
    exact drop_apply _ r c _ (topAt_eq _ _ hp)

/-- Round `t` picks position `t` of the order. -/
theorem picks_after (hv : ∀ k, ⊥ < sumAt v k) (t : Fin 4096) : Picks (at' (after v t)) (order (sumAt v) t) := by
  rw [at'_after v hv t t.isLt.le]
  exact picks_order _ hv t

/-- THE TWO RESULT ROWS after `t` rounds: at every lane below `t`, the value and the position that stand there in the
    order of the column sums. -/
theorem rows_apply (hv : ∀ k, ⊥ < sumAt v k) (t : Nat) (ht : t ≤ 64) (l : Fin 64) (hl : l.val < t) :
    valueRow v t (ix2 0 l) = sumAt v (order (sumAt v) ⟨l, by omega⟩)
      ∧ indexRow v t (ix2 0 l) = BitVec.ofNat 32 (order (sumAt v) ⟨l, by omega⟩) := by
  induction t with
  | zero => omega
  | succ t ih =>
    rw [valueRow, indexRow, put_apply t ht, put_apply t ht]
    by_cases h : l.val = t
    · subst h
      have hp := picks_after v hv ⟨l, by omega⟩
      rw [if_pos rfl, if_pos rfl, top_eq _ _ hp, topAt_eq _ _ hp]
      refine ⟨?_, rfl⟩
      rw [at'_after v hv _ (by omega)]
      exact masked_order (sumAt v) ⟨l, by omega⟩
    · rw [if_neg h, if_neg h]
      exact ih (by omega) (by omega)

end Cert.KernelIdeal.Rounds
-- ==== Proof.HostTopK.lean ====
/- The reference's top-k of a row of extended reals, read at a lane: the values and the positions in descending order,
   equal values in position order. -/
module

public import proofs.«01_k».proof.Proof.Order
public import proofs.«01_k».proof.Proof.Gen.ReferenceIdeal.Read
public import Idealize.ShloMosaic.Lib.Pointwise

@[expose] public section

noncomputable section

open Idealize.ShloMosaic Idealize.ShloMosaic.TcCoe Idealize.SL.Sem

namespace Cert.ReferenceIdeal.HostTopK

open Cert.ReferenceIdeal Cert.ReferenceIdeal.Gen Cert.Order

/-- The row read by position. -/
def rowAt (x : S4096.Idx → EReal) (k : Fin 4096) : EReal := x (ix1 k)

/-- The comparator of the sort is «greater» on extended reals. -/
theorem gt_eq (a b : EReal) : (FloatOps.cmpfTotal (F := Ideal) (φ := .f32) .gt a b == 1#1) = decide (b < a) := by
  show (BitVec.ofBool (decide (a > b)) == 1#1) = decide (b < a)
  by_cases h : b < a <;> simp [h]

/-- A stable sort of a row with its positions, by the first components, reads both through one map of the positions. -/
theorem sort2_rank1 {n : Nat} {α β : Type} (gt : α → α → BitVec 1) (x : (⟨1, ![n]⟩ : Shape).Idx → α) (y : (⟨1, ![n]⟩ : Shape).Idx → β)
    (j : (⟨1, ![n]⟩ : Shape).Idx) (p : Fin n)
    (hp : p = sortedFrom (fun k k' => gt (x (Shape.Idx.ofFin k)) (x (Shape.Idx.ofFin k')) == 1#1) (j 0)) :
    (Host.sort2 ⟨1, ![n]⟩ 0 (fun l r => gt l.1 r.1) x y).1 j = x (Shape.Idx.ofFin p)
      ∧ (Host.sort2 ⟨1, ![n]⟩ 0 (fun l r => gt l.1 r.1) x y).2 j = y (Shape.Idx.ofFin p) := by
  subst hp
  unfold Host.sort2
  simp

/-- THE TOP-K at a lane: the value and the position that stand there in the order of the row. -/
theorem topK_apply (x : FVec Ideal S4096 .f32) (h : S4096.Slices (fun _ => 0) S64) (l : Fin 64) :
    (Host.topK S64 0 (FloatOps.cmpfTotal (F := Ideal) (φ := .f32) .gt) x h).1 (ix1 l) = rowAt x (order (rowAt x) ⟨l, by omega⟩)
      ∧ (Host.topK S64 0 (FloatOps.cmpfTotal (F := Ideal) (φ := .f32) .gt) x h).2 (ix1 l)
        = BitVec.ofNat 32 (order (rowAt x) ⟨l, by omega⟩) := by
  have e : ∀ k : Fin 4096, Shape.Idx.ofFin k = ix1 k := fun k => by rw [eq_ix1 (Shape.Idx.ofFin k)]; rfl
  have hj : ∀ (j : S4096.Idx), (j 0).val = l.val → order (rowAt x) ⟨l, by omega⟩
      = sortedFrom (fun k k' => FloatOps.cmpfTotal (F := Ideal) (φ := .f32) .gt (x (Shape.Idx.ofFin k)) (x (Shape.Idx.ofFin k')) == 1#1) (j 0) := by
    intro j hl
    have hj0 : j 0 = (⟨l, by omega⟩ : Fin 4096) := Fin.ext hl
    simp only [gt_eq, e]
    rw [hj0]
    rfl
  have key := fun (y : IVec S4096 32) (j : S4096.Idx) hl => sort2_rank1 (FloatOps.cmpfTotal (F := Ideal) (φ := .f32) .gt) x y j _ (hj j hl)
  unfold Host.topK extractStridedSlice
  dsimp only
  rw [(key _ _ (Nat.zero_add _)).1, (key _ _ (Nat.zero_add _)).2, e]
  exact ⟨rfl, rfl⟩

end Cert.ReferenceIdeal.HostTopK
-- ==== Proof.Reference.lean ====
/- What the reference computes from finite inputs: the column sums of the softmax weights, as real numbers. -/
module

public import proofs.«01_k».proof.Proof.Model
public import proofs.«01_k».proof.Proof.Gen.ReferenceIdeal.Read
public import Idealize.ShloMosaic.Lib.Pointwise

@[expose] public section

set_option maxRecDepth 16384

noncomputable section

open Idealize.ShloMosaic Idealize.ShloMosaic.TcCoe Idealize.SL.Sem

namespace Cert.ReferenceIdeal.Sums

open Cert.ReferenceIdeal Cert.ReferenceIdeal.Gen Cert.ReferenceIdeal.Read Cert.Model

variable (x0 : FVec Ideal S512x512x3 .f32) (x1 : FVec Ideal S192x32 .f32) (x2 : FVec Ideal S32 .f32) (x3 : FVec Ideal S192x32 .f32)
  (x4 : FVec Ideal S32 .f32)
  (P : Fin 4096 → Fin 192 → ℝ) (Wq Wk : Fin 192 → Fin 32 → ℝ) (bq bk : Fin 32 → ℝ)

/-- The reference's projected queries. -/
theorem queries_apply (hP : ∀ r k, val_main_v2 (F := Ideal) x0 (ix2 r k) = (P r k : EReal)) (h1 : ∀ k d, x1 (ix2 k d) = (Wq k d : EReal))
    (h2 : ∀ d, x2 (ix1 d) = (bq d : EReal)) (r : Fin 4096) (d : Fin 32) :
    val_main_v6 (F := Ideal) x0 x1 x2 (ix2 r d) = (proj P Wq bq r d : EReal) := by
  pointwise [val_main_v6, val_main_v5, val_main_v4, val_main_v3]
  simp only [hP, h1, h2, proj, EReal.coe_add, coe_sum, EReal.coe_mul]

/-- The reference's projected keys. -/
theorem keys_apply (hP : ∀ r k, val_main_v2 (F := Ideal) x0 (ix2 r k) = (P r k : EReal)) (h3 : ∀ k d, x3 (ix2 k d) = (Wk k d : EReal))
    (h4 : ∀ d, x4 (ix1 d) = (bk d : EReal)) (r : Fin 4096) (d : Fin 32) :
    val_main_v10 (F := Ideal) x0 x3 x4 (ix2 r d) = (proj P Wk bk r d : EReal) := by
  pointwise [val_main_v10, val_main_v9, val_main_v8, val_main_v7]
  simp only [hP, h3, h4, proj, EReal.coe_add, coe_sum, EReal.coe_mul]

variable (Q K : Fin 4096 → Fin 32 → ℝ)

/-- The reference's scores. -/
theorem scores_apply (hq : ∀ r d, val_main_v6 (F := Ideal) x0 x1 x2 (ix2 r d) = (Q r d : EReal))
    (hk : ∀ c d, val_main_v10 (F := Ideal) x0 x3 x4 (ix2 c d) = (K c d : EReal)) (r c : Fin 4096) :
    val_main_v12 (F := Ideal) x0 x1 x2 x3 x4 (ix2 r c) = (score Q K r c : EReal) := by
  pointwise [val_main_v12, val_main_v11]
  simp only [hq, hk, score, coe_sum, EReal.coe_mul]

/-- A host maximum over the rows of a square array, from −∞. -/
theorem rowMax_apply (y : FVec Ideal S4096x4096 .f32) (r : Fin 4096) :
    Host.reduce FloatOps.maximumf y (constant (F := Ideal) S_ .f32 0xFF800000#32) reducesTo_S4096x4096_S4096_d1 h_S_ (ix1 r)
      = Finset.univ.fold max (Ideal.ofBits .f32 0xFF800000#32) fun c => y (ix2 r c) := by
  pointwise

/-- The reference's shift of a query, the greatest of its scores, is a real. -/
theorem shift_real (r : Fin 4096) (s : Fin 4096 → ℝ)
    (hs : ∀ c, val_main_v12 (F := Ideal) x0 x1 x2 x3 x4 (ix2 r c) = (s c : EReal)) :
    ∃ b : ℝ, val_main_v15 (F := Ideal) x0 x1 x2 x3 x4 (ix1 r) = (b : EReal) := by
  rw [val_main_v15_apply, val_main_v14_apply]
  unfold val_main_v13
  generalize val_main_v12 (F := Ideal) x0 x1 x2 x3 x4 = y at hs ⊢
  have h := rowMax_apply y r
  rw [show val_main_cst (F := Ideal) = constant (F := Ideal) S_ .f32 0xFF800000#32 from rfl, h]
  show ∃ b : ℝ, max (Ideal.ofBits .f32 0xFF800000#32) _ = (b : EReal)
  simp only [hs, ofBits_negInf]
  obtain ⟨c, h⟩ := exists_fold_max fun c => (s c : EReal)
  exact ⟨s c, by rw [h]; simp⟩

/-- The reference's softmax weights. -/
theorem weights_apply (r : Fin 4096) (s : Fin 4096 → ℝ)
    (hs : ∀ c, val_main_v12 (F := Ideal) x0 x1 x2 x3 x4 (ix2 r c) = (s c : EReal)) (c : Fin 4096) :
    val_main_v23 (F := Ideal) x0 x1 x2 x3 x4 (ix2 r c) = ((Real.exp (s c) / ∑ c', Real.exp (s c') : ℝ) : EReal) := by
  obtain ⟨b, hb⟩ := shift_real x0 x1 x2 x3 x4 r s hs
  have he : ∀ c, val_main_v19 (F := Ideal) x0 x1 x2 x3 x4 (ix2 r c) = (Real.exp (s c - b) : EReal) := fun c => by
    pointwise [val_main_v19, val_main_v18, val_main_v17, val_main_v16]
    rw [hs, hb, ← EReal.coe_sub, Ideal.exp_coe]
  pointwise [val_main_v23, val_main_v22, val_main_v21, val_main_v20, val_main_cst_1]
  simp only [he]
  exact shifted_softmax s b c

/-- THE COLUMN SUMS of the reference. -/
theorem colSums_apply (hP : ∀ r k, val_main_v2 (F := Ideal) x0 (ix2 r k) = (P r k : EReal)) (h1 : ∀ k d, x1 (ix2 k d) = (Wq k d : EReal))
    (h2 : ∀ d, x2 (ix1 d) = (bq d : EReal)) (h3 : ∀ k d, x3 (ix2 k d) = (Wk k d : EReal)) (h4 : ∀ d, x4 (ix1 d) = (bk d : EReal))
    (c : Fin 4096) : val_main_v24 (F := Ideal) x0 x1 x2 x3 x4 (ix1 c)
      = ((∑ r, attn (proj P Wq bq) (proj P Wk bk) r c : ℝ) : EReal) := by
  have hq := queries_apply x0 x1 x2 P Wq bq hP h1 h2
  have hk := keys_apply x0 x3 x4 P Wk bk hP h3 h4
  have hs := scores_apply x0 x1 x2 x3 x4 (proj P Wq bq) (proj P Wk bk) hq hk
  pointwise [val_main_v24, val_main_cst_2]
  rw [coe_sum]
  exact Finset.sum_congr rfl fun r _ => weights_apply x0 x1 x2 x3 x4 r _ (hs r) c

end Cert.ReferenceIdeal.Sums
-- ==== Proof.Finite.lean ====
/- The precondition read back: every element of the five arguments is a real number. -/
module

public import proofs.«01_k».proof.Proof.Model
public import proofs.«01_k».proof.Proof.Gen.Pre_finite
public import Idealize.ShloMosaic.Lib.ReduceAll
public import Idealize.ShloMosaic.Lib.Pointwise

@[expose] public section

noncomputable section

open Idealize.ShloMosaic Idealize.ShloMosaic.TcCoe Idealize.SL.Sem

namespace Cert.Pre_finite.Read

open Cert.Pre_finite Cert.Pre_finite.Gen

/-- An array of extended reals every element of which is a real. -/
def AllReal {s : Shape} (x : FVec Ideal s .f32) : Prop := ∀ i, x i = ((x i : EReal).toReal : EReal)

/-- An extended real whose absolute value is below +∞ is a real. -/
theorem real_of_abs_lt (x : EReal) (h : Ideal.cmp .olt (max x (-x)) (Ideal.ofBits .f32 0x7F800000#32) = 1#1) :
    x = (x.toReal : EReal) := by
  have ht : Ideal.ofBits .f32 0x7F800000#32 = ⊤ := by simp [Ideal.ofBits, Ideal.ieee]
  have hlt : max x (-x) < ⊤ := by
    rw [ht] at h
    by_contra hn
    simp [Ideal.cmp, hn] at h
  rw [max_lt_iff] at hlt
  refine (EReal.coe_toReal hlt.1.ne fun hb => ?_).symm
  rw [hb] at hlt
  exact absurd hlt.2 (by simp)

/-- A comparison of absolute values with +∞ that holds everywhere says that every element is a real. -/
theorem allReal_of_all {s t : Shape} {axes : List (Fin s.rank)} [Subsingleton t.Idx] (x : FVec Ideal s .f32)
    (hb : S_.BroadcastsInDim s (![] : Fin 0 → Fin s.rank)) (hr : s.ReducesTo axes t) (hu : 0 < S_.numel) (j : t.Idx)
    (e : Host.reduce IntOp.andi (cmpf .olt (Host.absf x) (broadcastInDim s ![] hb (constant (F := Ideal) S_ .f32 0x7F800000#32)))
      (constantI S_ 1 1#1) hr hu j = 1#1) : AllReal x :=
  fun i => real_of_abs_lt (x i) (Host.reduce_andi_all _ _ hr hu j e i)

instance : Subsingleton S_.Idx := ⟨fun a b => funext fun i => i.elim0⟩

/-- THE PRECONDITION says that every element of every argument is a real. -/
theorem allReal (x0 : FVec Ideal S512x512x3 .f32) (x1 : FVec Ideal S192x32 .f32) (x2 : FVec Ideal S32 .f32) (x3 : FVec Ideal S192x32 .f32)
    (x4 : FVec Ideal S32 .f32) (h : fn (F := Ideal) x0 x1 x2 x3 x4 = fun _ => 1#1) :
    AllReal x0 ∧ AllReal x1 ∧ AllReal x2 ∧ AllReal x3 ∧ AllReal x4 := by
  have h := congrFun h (fun i => i.elim0)
  unfold fn fn_part1 at h
  dsimp only [andi] at h
  simp only [IntOp.andi_eq_one] at h
  obtain ⟨⟨⟨⟨h0, h1⟩, h2⟩, h3⟩, h4⟩ := h
  exact ⟨allReal_of_all _ _ _ _ _ h0, allReal_of_all _ _ _ _ _ h1, allReal_of_all _ _ _ _ _ h2, allReal_of_all _ _ _ _ _ h3,
    allReal_of_all _ _ _ _ _ h4⟩

end Cert.Pre_finite.Read
-- ==== Proof.Equation.lean ====
/- The equation: from finite arguments the kernel's three result arrays are the reference's. -/
module

public import proofs.«01_k».proof.Proof.Sums
public import proofs.«01_k».proof.Proof.Patches
public import proofs.«01_k».proof.Proof.Picks
public import proofs.«01_k».proof.Proof.HostTopK
public import proofs.«01_k».proof.Proof.Reference
public import proofs.«01_k».proof.Proof.Finite

@[expose] public section

set_option maxRecDepth 16384

noncomputable section

open Idealize.ShloMosaic Idealize.ShloMosaic.TcCoe Idealize.SL.Sem

namespace Cert.KernelIdeal.Equation

open Cert.KernelIdeal Cert.KernelIdeal.Gen Cert.Model Cert.Order Cert.Pre_finite.Read
open Cert.KernelIdeal.Array Cert.KernelIdeal.Rounds Cert.ReferenceIdeal.Read Cert.ReferenceIdeal.HostTopK

variable (m : (ℓ : Loc nD τ sig) → Buf (Elt Ideal) ℓ) (c : Dev nD)

/-- The device's arguments: image, query weights and bias, key weights and bias. -/
abbrev image : FVec Ideal Cert.ReferenceIdeal.S512x512x3 .f32 := m ((c : Thread nD τ).loc main_arg0)
abbrev queryWeights : FVec Ideal Cert.ReferenceIdeal.S192x32 .f32 := m ((c : Thread nD τ).loc main_arg1)
abbrev queryBias : FVec Ideal Cert.ReferenceIdeal.S32 .f32 := m ((c : Thread nD τ).loc main_arg2)
abbrev keyWeights : FVec Ideal Cert.ReferenceIdeal.S192x32 .f32 := m ((c : Thread nD τ).loc main_arg3)
abbrev keyBias : FVec Ideal Cert.ReferenceIdeal.S32 .f32 := m ((c : Thread nD τ).loc main_arg4)

/-- The reference's column sums of the device's arguments. -/
abbrev refSums : FVec Ideal Cert.ReferenceIdeal.S4096 .f32 :=
  val_main_v24 (F := Ideal) (image m c) (queryWeights m c) (queryBias m c) (keyWeights m c) (keyBias m c)

/-- What the precondition gives on one device. -/
def Finite : Prop :=
  AllReal (image m c) ∧ AllReal (queryWeights m c) ∧ AllReal (queryBias m c) ∧ AllReal (keyWeights m c) ∧ AllReal (keyBias m c)

/-- The kernel's column sums are the reference's, and they are reals. -/
theorem sums_eq (h : Finite m c) (k : Fin 4096) : total m c (ix2 0 k) = refSums m c (ix1 k) ∧ ⊥ < total m c (ix2 0 k) := by
  obtain ⟨h0, h1, h2, h3, h4⟩ := h
  have hP : ∀ r k, patches m c (ix2 r k) = ((patches m c (ix2 r k) : EReal).toReal : EReal) := fun r k => by
    rw [Patches.kernel_apply]; exact h0 _
  have hq : ∀ d, bq m c (ix2 0 d) = queryBias m c (ix1 d) := fun d => by unfold bq; pointwise
  have hk : ∀ d, bk m c (ix2 0 d) = keyBias m c (ix1 d) := fun d => by unfold bk; pointwise
  have e := Sums.total_apply m c (fun r k => (patches m c (ix2 r k) : EReal).toReal) (fun k d => (queryWeights m c (ix2 k d) : EReal).toReal)
    (fun k d => (keyWeights m c (ix2 k d) : EReal).toReal) (fun d => (queryBias m c (ix1 d) : EReal).toReal)
    (fun d => (keyBias m c (ix1 d) : EReal).toReal) hP (fun k d => h1 _) (fun d => (hq d).trans (h2 _)) (fun k d => h3 _)
    (fun d => (hk d).trans (h4 _)) k
  have e' := Cert.ReferenceIdeal.Sums.colSums_apply (image m c) (queryWeights m c) (queryBias m c) (keyWeights m c) (keyBias m c)
    (fun r k => (patches m c (ix2 r k) : EReal).toReal) (fun k d => (queryWeights m c (ix2 k d) : EReal).toReal)
    (fun k d => (keyWeights m c (ix2 k d) : EReal).toReal) (fun d => (queryBias m c (ix1 d) : EReal).toReal)
    (fun d => (keyBias m c (ix1 d) : EReal).toReal) (fun r k => (Patches.agree m c r k).symm.trans (hP r k)) (fun k d => h1 _)
    (fun d => h2 _) (fun k d => h3 _) (fun d => h4 _) k
  exact ⟨e.trans e'.symm, e ▸ EReal.bot_lt_coe _⟩

/-- As functions of the column, the two rows of sums are one. -/
theorem row_eq (h : Finite m c) : sumAt (total m c) = rowAt (refSums m c) := funext fun k => (sums_eq m c h k).1

/-- Every index of a row of `n` is `(0, l)` for some `l`. -/
theorem idx_row {n : ℕ} (i : (⟨2, ![1, n]⟩ : Shape).Idx) : ∃ l : Fin n, i = ix2 0 l := by
  refine ⟨i 1, funext fun a => ?_⟩
  match a with
  | ⟨0, _⟩ => exact Subsingleton.elim (α := Fin 1) _ _
  | ⟨1, _⟩ => rfl

/-- THE SUMS are the reference's third result. -/
theorem colsum_eq (h : Finite m c) :
    Value.G5 m c = val_main_v27 (F := Ideal) (image m c) (queryWeights m c) (queryBias m c) (keyWeights m c) (keyBias m c) := by
  rw [(result m c).1]
  funext i
  obtain ⟨l, rfl⟩ : ∃ l : Fin 4096, i = ix2 0 l := idx_row i
  rw [val_main_v27_apply, (sums_eq m c h _).1]
  refine congrArg _ (funext fun a => Fin.ext ?_)
  match a with
  | ⟨0, _⟩ => show l.val = 0 * 4096 + l.val; omega

/-- The reference's position of entry `(0, l)` in the row of 64. -/
theorem idx_top (l : Fin 64) : idx_main_v25 (ix2 0 l) = ix1 l := by
  funext a
  match a with
  | ⟨0, _⟩ => exact Fin.ext (show 0 * 64 + l.val = l.val by omega)

/-- THE VALUES are the reference's first result. -/
theorem best_eq (h : Finite m c) :
    Value.G6 m c = val_main_v25 (F := Ideal) (image m c) (queryWeights m c) (queryBias m c) (keyWeights m c) (keyBias m c) := by
  rw [(result m c).2.1]
  funext i
  obtain ⟨l, rfl⟩ : ∃ l : Fin 64, i = ix2 0 l := idx_row i
  rw [val_main_v25_apply, idx_top, (rows_apply (total m c) (fun k => (sums_eq m c h k).2) 64 le_rfl _ l.isLt).1, row_eq m c h]
  exact (topK_apply (refSums m c) _ l).1.symm

/-- THE INDICES are the reference's second result. -/
theorem idx_eq (h : Finite m c) :
    Value.G7 m c = val_main_v26 (F := Ideal) (image m c) (queryWeights m c) (queryBias m c) (keyWeights m c) (keyBias m c) := by
  rw [(result m c).2.2]
  funext i
  obtain ⟨l, rfl⟩ : ∃ l : Fin 64, i = ix2 0 l := idx_row i
  rw [val_main_v26_apply, (rows_apply (total m c) (fun k => (sums_eq m c h k).2) 64 le_rfl _ l.isLt).2, row_eq m c h]
  exact (topK_apply (refSums m c) _ l).2.symm.trans (congrArg _ (idx_top l).symm)

end Cert.KernelIdeal.Equation
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Pre_finite
public import proofs.«01_k».proof.Proof.Equation
public import Idealize.ShloMosaic.Adequacy
public import Idealize.ShloMosaic.Init

@[expose] public section

noncomputable section

namespace Cert.Proof

open Idealize.ShloMosaic Idealize.ShloMosaic.TcCoe Idealize.SL.Sem

/-- The reference runs, leaves its arguments unchanged and holds no semaphore. -/
theorem frame_reference : Cert.quiescent_ReferenceIdeal := fun m ρ _ =>
  (θ_run Cert.ReferenceIdeal.defs _ _).mono
    (fun r h => ⟨fun c => (h c).2.2.2, sem_eq_zero_of_no_sems (by decide) r.2⟩)
    (Cert.ReferenceIdeal.Value.run (F := Ideal) m ρ)

open Cert.KernelIdeal.Equation Cert.ReferenceIdeal.Read in
/-- From finite arguments the kernel's largest values, their indices and its column sums are the reference's. -/
theorem algebraic : Cert.algebraic_KernelIdeal_ReferenceIdeal_pre_finite := by
  intro m ρ m' ρ' hpre hagree
  have hf : ∀ c, Finite m c := fun c => Cert.Pre_finite.Read.allReal _ _ _ _ _ (hpre c)
  refine ⟨fun c => Cert.KernelIdeal.Value.G6 m c, fun c => Cert.KernelIdeal.Value.G7 m c, fun c => Cert.KernelIdeal.Value.G5 m c,
    (θ_run Cert.KernelIdeal.defs _ _).mono (fun r h c => ?_) (Cert.KernelIdeal.Value.run (F := Ideal) m ρ),
    (θ_run Cert.ReferenceIdeal.defs _ _).mono (fun r h c => ?_) (Cert.ReferenceIdeal.Value.run (F := Ideal) m' ρ')⟩
  · obtain ⟨h5, h6, h7, ha⟩ := h c
    exact ⟨h6, h7, h5, ha⟩
  · obtain ⟨h25, h26, h27, ha⟩ := h c
    obtain ⟨a0, a1, a2, a3, a4⟩ := hagree c
    refine ⟨h25.trans ?_, h26.trans ?_, h27.trans ?_, ha⟩
    · rw [val_main_v25_eq, a0, a1, a2, a3, a4]; exact (best_eq m c (hf c)).symm
    · rw [val_main_v26_eq, a0, a1, a2, a3, a4]; exact (idx_eq m c (hf c)).symm
    · rw [val_main_v27_eq, a0, a1, a2, a3, a4]; exact (colsum_eq m c (hf c)).symm

/-- Everything claimed. -/
theorem claim : Cert.Claim :=
  ⟨Cert.Kernel.Gen.facts, Cert.KernelIdeal.Gen.facts, Cert.ReferenceIdeal.Gen.facts, Cert.Pre_finite.Gen.facts,
    fun m ρ _ => Cert.Kernel.Gen.frame m ρ, fun m ρ _ => Cert.KernelIdeal.Gen.frame m ρ, fun m ρ _ => Cert.KernelIdeal.Gen.frame m ρ,
    frame_reference, fun m ρ _ => frame_reference m ρ trivial, trivial, algebraic⟩

end Cert.Proof

end
